-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "inv_log_two" .f32 0x3FB8AA3B#32 (((Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_routed.lean ====
abbrev S16384x1024 : Shape := ⟨2, ![16384, 1024]⟩
abbrev S2x1x6144 : Shape := ⟨3, ![2, 1, 6144]⟩
abbrev S8x1024x3584 : Shape := ⟨3, ![8, 1024, 3584]⟩
abbrev S8x3584x1024 : Shape := ⟨3, ![8, 3584, 1024]⟩
abbrev S16384x128 : Shape := ⟨2, ![16384, 128]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x1024 .bf16) (main_arg1 : FVec F S16384x1024 .f32) (main_arg2 : FVec F S2x1x6144 .f32) (main_arg3 : FVec F S8x1024x3584 .f32) (main_arg4 : FVec F S8x1024x3584 .f32) (main_arg5 : FVec F S8x3584x1024 .f32) (main_arg6 : FVec F S16384x128 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg6 main_v0
  let main_cst_0 : FVec F S_ .f32 := constant S_ .f32 0x7F800000#32
  let main_v2 : FVec F S16384x128 .f32 := broadcastInDim S16384x128 ![] bcast_S_S16384x128 main_cst_0
  let main_v3 : IVec S16384x128 1 := cmpf .olt main_arg6 main_v2
  let main_v4 : IVec S16384x128 1 := andi main_v1 main_v3
  main_v4
-- ==== Kernel.lean ====
abbrev S16384x1024 : Shape := ⟨2, ![16384, 1024]⟩
abbrev S2x1x6144 : Shape := ⟨3, ![2, 1, 6144]⟩
abbrev S8x1024x3584 : Shape := ⟨3, ![8, 1024, 3584]⟩
abbrev S8x3584x1024 : Shape := ⟨3, ![8, 3584, 1024]⟩
abbrev S16384x128 : Shape := ⟨2, ![16384, 128]⟩
abbrev S512x1024 : Shape := ⟨2, ![512, 1024]⟩
abbrev S1x1x1024 : Shape := ⟨3, ![1, 1, 1024]⟩
abbrev S512x128 : Shape := ⟨2, ![512, 128]⟩
abbrev S1x1024x896 : Shape := ⟨3, ![1, 1024, 896]⟩
abbrev S1x896x1024 : Shape := ⟨3, ![1, 896, 1024]⟩
abbrev S1024x896 : Shape := ⟨2, ![1024, 896]⟩
abbrev S512x896 : Shape := ⟨2, ![512, 896]⟩
abbrev S512 : Shape := ⟨1, ![512]⟩
abbrev S512x1 : Shape := ⟨2, ![512, 1]⟩
abbrev S896x1024 : Shape := ⟨2, ![896, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1x6144, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S16384x128, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x128, .f32⟩
  | .local _ .vmem, ⟨7, _⟩ => ⟨S512x128, .f32⟩
  | .local _ .vmem, ⟨8, _⟩ => ⟨S1x1024x896, .bf16⟩
  | .local _ .vmem, ⟨9, _⟩ => ⟨S1x1024x896, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x896x1024, .bf16⟩
  | .local _ .vmem, ⟨13, _⟩ => ⟨S1x896x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![32, 8, 4], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c3_i32 : BitVec 32 := 3#32
  let v41 : BitVec 1 := Scalar.cmpi .eq arg2 c3_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S16384x1024 : Shape := ⟨2, ![16384, 1024]⟩
abbrev S2x1x6144 : Shape := ⟨3, ![2, 1, 6144]⟩
abbrev S8x1024x3584 : Shape := ⟨3, ![8, 1024, 3584]⟩
abbrev S8x3584x1024 : Shape := ⟨3, ![8, 3584, 1024]⟩
abbrev S16384x128 : Shape := ⟨2, ![16384, 128]⟩
abbrev S2x8192x1024 : Shape := ⟨3, ![2, 8192, 1024]⟩
abbrev S2x1x1024 : Shape := ⟨3, ![2, 1, 1024]⟩
abbrev S_ : Shape := ⟨0, ![]⟩
abbrev S2x8192x128 : Shape := ⟨3, ![2, 8192, 128]⟩
abbrev S2x8192x1 : Shape := ⟨3, ![2, 8192, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S2x8192x3584 : Shape := ⟨3, ![2, 8192, 3584]⟩

abbrev nBuf : Space → Nat
  | .hbm => 214
  | .vmem => 0
  | .smem => 0
  | _ => 0

abbrev hbmTy0_0 (i : Nat) : BufTy := match i % 128 with
  | 0 => ⟨S16384x1024, .bf16⟩
  | 1 => ⟨S16384x1024, .f32⟩
  | 2 => ⟨S2x1x6144, .f32⟩
  | 3 => ⟨S8x1024x3584, .f32⟩
  | 4 => ⟨S8x1024x3584, .f32⟩
  | 5 => ⟨S8x3584x1024, .f32⟩
  | 6 => ⟨S16384x128, .f32⟩
  | 7 => ⟨S16384x1024, .f32⟩
  | 8 => ⟨S2x8192x1024, .f32⟩
  | 9 => ⟨S2x8192x1024, .f32⟩
  | 10 => ⟨S2x1x1024, .f32⟩
  | 11 => ⟨S2x1x1024, .f32⟩
  | 12 => ⟨S2x1x1024, .f32⟩
  | 13 => ⟨S2x1x1024, .f32⟩
  | 14 => ⟨S2x1x1024, .f32⟩
  | 15 => ⟨S2x1x1024, .f32⟩
  | 16 => ⟨S_, .f32⟩
  | 17 => ⟨S2x8192x1024, .f32⟩
  | 18 => ⟨S2x8192x128, .f32⟩
  | 19 => ⟨S2x8192x1, .f32⟩
  | 20 => ⟨S1x1024x3584, .f32⟩
  | 21 => ⟨S1024x3584, .f32⟩
  | 22 => ⟨S1x1024x3584, .f32⟩
  | 23 => ⟨S1024x3584, .f32⟩
  | 24 => ⟨S1x3584x1024, .f32⟩
  | 25 => ⟨S3584x1024, .f32⟩
  | 26 => ⟨S2x8192x3584, .f32⟩
  | 27 => ⟨S2x8192x3584, .f32⟩
  | 28 => ⟨S2x8192x3584, .f32⟩
  | 29 => ⟨S_, .f32⟩
  | 30 => ⟨S2x8192x3584, .f32⟩
  | 31 => ⟨S2x8192x3584, .f32⟩
  | 32 => ⟨S_, .f32⟩
  | 33 => ⟨S2x8192x3584, .f32⟩
  | 34 => ⟨S2x8192x3584, .f32⟩
  | 35 => ⟨S2x8192x3584, .f32⟩
  | 36 => ⟨S2x8192x3584, .f32⟩
  | 37 => ⟨S2x8192x3584, .f32⟩
  | 38 => ⟨S2x8192x1024, .f32⟩
  | 39 => ⟨S2x8192x1024, .f32⟩
  | 40 => ⟨S2x8192x1024, .f32⟩
  | 41 => ⟨S2x8192x1024, .f32⟩
  | 42 => ⟨S2x8192x128, .f32⟩
  | 43 => ⟨S2x8192x1, .f32⟩
  | 44 => ⟨S1x1024x3584, .f32⟩
  | 45 => ⟨S1024x3584, .f32⟩
  | 46 => ⟨S1x1024x3584, .f32⟩
  | 47 => ⟨S1024x3584, .f32⟩
  | 48 => ⟨S1x3584x1024, .f32⟩
  | 49 => ⟨S3584x1024, .f32⟩
  | 50 => ⟨S2x8192x3584, .f32⟩
  | 51 => ⟨S2x8192x3584, .f32⟩
  | 52 => ⟨S2x8192x3584, .f32⟩
  | 53 => ⟨S_, .f32⟩
  | 54 => ⟨S2x8192x3584, .f32⟩
  | 55 => ⟨S2x8192x3584, .f32⟩
  | 56 => ⟨S_, .f32⟩
  | 57 => ⟨S2x8192x3584, .f32⟩
  | 58 => ⟨S2x8192x3584, .f32⟩
  | 59 => ⟨S2x8192x3584, .f32⟩
  | 60 => ⟨S2x8192x3584, .f32⟩
  | 61 => ⟨S2x8192x3584, .f32⟩
  | 62 => ⟨S2x8192x1024, .f32⟩
  | 63 => ⟨S2x8192x1024, .f32⟩
  | 64 => ⟨S2x8192x1024, .f32⟩
  | 65 => ⟨S2x8192x1024, .f32⟩
  | 66 => ⟨S2x8192x128, .f32⟩
  | 67 => ⟨S2x8192x1, .f32⟩
  | 68 => ⟨S1x1024x3584, .f32⟩
  | 69 => ⟨S1024x3584, .f32⟩
  | 70 => ⟨S1x1024x3584, .f32⟩
  | 71 => ⟨S1024x3584, .f32⟩
  | 72 => ⟨S1x3584x1024, .f32⟩
  | 73 => ⟨S3584x1024, .f32⟩
  | 74 => ⟨S2x8192x3584, .f32⟩
  | 75 => ⟨S2x8192x3584, .f32⟩
  | 76 => ⟨S2x8192x3584, .f32⟩
  | 77 => ⟨S_, .f32⟩
  | 78 => ⟨S2x8192x3584, .f32⟩
  | 79 => ⟨S2x8192x3584, .f32⟩
  | 80 => ⟨S_, .f32⟩
  | 81 => ⟨S2x8192x3584, .f32⟩
  | 82 => ⟨S2x8192x3584, .f32⟩
  | 83 => ⟨S2x8192x3584, .f32⟩
  | 84 => ⟨S2x8192x3584, .f32⟩
  | 85 => ⟨S2x8192x3584, .f32⟩
  | 86 => ⟨S2x8192x1024, .f32⟩
  | 87 => ⟨S2x8192x1024, .f32⟩
  | 88 => ⟨S2x8192x1024, .f32⟩
  | 89 => ⟨S2x8192x1024, .f32⟩
  | 90 => ⟨S2x8192x128, .f32⟩
  | 91 => ⟨S2x8192x1, .f32⟩
  | 92 => ⟨S1x1024x3584, .f32⟩
  | 93 => ⟨S1024x3584, .f32⟩
  | 94 => ⟨S1x1024x3584, .f32⟩
  | 95 => ⟨S1024x3584, .f32⟩
  | 96 => ⟨S1x3584x1024, .f32⟩
  | 97 => ⟨S3584x1024, .f32⟩
  | 98 => ⟨S2x8192x3584, .f32⟩
  | 99 => ⟨S2x8192x3584, .f32⟩
  | 100 => ⟨S2x8192x3584, .f32⟩
  | 101 => ⟨S_, .f32⟩
  | 102 => ⟨S2x8192x3584, .f32⟩
  | 103 => ⟨S2x8192x3584, .f32⟩
  | 104 => ⟨S_, .f32⟩
  | 105 => ⟨S2x8192x3584, .f32⟩
  | 106 => ⟨S2x8192x3584, .f32⟩
  | 107 => ⟨S2x8192x3584, .f32⟩
  | 108 => ⟨S2x8192x3584, .f32⟩
  | 109 => ⟨S2x8192x3584, .f32⟩
  | 110 => ⟨S2x8192x1024, .f32⟩
  | 111 => ⟨S2x8192x1024, .f32⟩
  | 112 => ⟨S2x8192x1024, .f32⟩
  | 113 => ⟨S2x8192x1024, .f32⟩
  | 114 => ⟨S2x8192x128, .f32⟩
  | 115 => ⟨S2x8192x1, .f32⟩
  | 116 => ⟨S1x1024x3584, .f32⟩
  | 117 => ⟨S1024x3584, .f32⟩
  | 118 => ⟨S1x1024x3584, .f32⟩
  | 119 => ⟨S1024x3584, .f32⟩
  | 120 => ⟨S1x3584x1024, .f32⟩
  | 121 => ⟨S3584x1024, .f32⟩
  | 122 => ⟨S2x8192x3584, .f32⟩
  | 123 => ⟨S2x8192x3584, .f32⟩
  | 124 => ⟨S2x8192x3584, .f32⟩
  | 125 => ⟨S_, .f32⟩
  | 126 => ⟨S2x8192x3584, .f32⟩
  | 127 => ⟨S2x8192x3584, .f32⟩
  | _ => ⟨S16384x1024, .bf16⟩

abbrev hbmTy0_1 (i : Nat) : BufTy := match i % 128 with
  | 0 => ⟨S_, .f32⟩
  | 1 => ⟨S2x8192x3584, .f32⟩
  | 2 => ⟨S2x8192x3584, .f32⟩
  | 3 => ⟨S2x8192x3584, .f32⟩
  | 4 => ⟨S2x8192x3584, .f32⟩
  | 5 => ⟨S2x8192x3584, .f32⟩
  | 6 => ⟨S2x8192x1024, .f32⟩
  | 7 => ⟨S2x8192x1024, .f32⟩
  | 8 => ⟨S2x8192x1024, .f32⟩
  | 9 => ⟨S2x8192x1024, .f32⟩
  | 10 => ⟨S2x8192x128, .f32⟩
  | 11 => ⟨S2x8192x1, .f32⟩
  | 12 => ⟨S1x1024x3584, .f32⟩
  | 13 => ⟨S1024x3584, .f32⟩
  | 14 => ⟨S1x1024x3584, .f32⟩
  | 15 => ⟨S1024x3584, .f32⟩
  | 16 => ⟨S1x3584x1024, .f32⟩
  | 17 => ⟨S3584x1024, .f32⟩
  | 18 => ⟨S2x8192x3584, .f32⟩
  | 19 => ⟨S2x8192x3584, .f32⟩
  | 20 => ⟨S2x8192x3584, .f32⟩
  | 21 => ⟨S_, .f32⟩
  | 22 => ⟨S2x8192x3584, .f32⟩
  | 23 => ⟨S2x8192x3584, .f32⟩
  | 24 => ⟨S_, .f32⟩
  | 25 => ⟨S2x8192x3584, .f32⟩
  | 26 => ⟨S2x8192x3584, .f32⟩
  | 27 => ⟨S2x8192x3584, .f32⟩
  | 28 => ⟨S2x8192x3584, .f32⟩
  | 29 => ⟨S2x8192x3584, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x128, .f32⟩
  | 35 => ⟨S2x8192x1, .f32⟩
  | 36 => ⟨S1x1024x3584, .f32⟩
  | 37 => ⟨S1024x3584, .f32⟩
  | 38 => ⟨S1x1024x3584, .f32⟩
  | 39 => ⟨S1024x3584, .f32⟩
  | 40 => ⟨S1x3584x1024, .f32⟩
  | 41 => ⟨S3584x1024, .f32⟩
  | 42 => ⟨S2x8192x3584, .f32⟩
  | 43 => ⟨S2x8192x3584, .f32⟩
  | 44 => ⟨S2x8192x3584, .f32⟩
  | 45 => ⟨S_, .f32⟩
  | 46 => ⟨S2x8192x3584, .f32⟩
  | 47 => ⟨S2x8192x3584, .f32⟩
  | 48 => ⟨S_, .f32⟩
  | 49 => ⟨S2x8192x3584, .f32⟩
  | 50 => ⟨S2x8192x3584, .f32⟩
  | 51 => ⟨S2x8192x3584, .f32⟩
  | 52 => ⟨S2x8192x3584, .f32⟩
  | 53 => ⟨S2x8192x3584, .f32⟩
  | 54 => ⟨S2x8192x1024, .f32⟩
  | 55 => ⟨S2x8192x1024, .f32⟩
  | 56 => ⟨S2x8192x1024, .f32⟩
  | 57 => ⟨S2x8192x1024, .f32⟩
  | 58 => ⟨S2x8192x128, .f32⟩
  | 59 => ⟨S2x8192x1, .f32⟩
  | 60 => ⟨S1x1024x3584, .f32⟩
  | 61 => ⟨S1024x3584, .f32⟩
  | 62 => ⟨S1x1024x3584, .f32⟩
  | 63 => ⟨S1024x3584, .f32⟩
  | 64 => ⟨S1x3584x1024, .f32⟩
  | 65 => ⟨S3584x1024, .f32⟩
  | 66 => ⟨S2x8192x3584, .f32⟩
  | 67 => ⟨S2x8192x3584, .f32⟩
  | 68 => ⟨S2x8192x3584, .f32⟩
  | 69 => ⟨S_, .f32⟩
  | 70 => ⟨S2x8192x3584, .f32⟩
  | 71 => ⟨S2x8192x3584, .f32⟩
  | 72 => ⟨S_, .f32⟩
  | 73 => ⟨S2x8192x3584, .f32⟩
  | 74 => ⟨S2x8192x3584, .f32⟩
  | 75 => ⟨S2x8192x3584, .f32⟩
  | 76 => ⟨S2x8192x3584, .f32⟩
  | 77 => ⟨S2x8192x3584, .f32⟩
  | 78 => ⟨S2x8192x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S2x8192x1024, .f32⟩
  | 84 => ⟨S2x8192x1024, .f32⟩
  | 85 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call4_v0 : Ref sig .tc := ⟨.hbm, 123, rfl⟩
abbrev main_call4_v1 : Ref sig .tc := ⟨.hbm, 124, rfl⟩
abbrev main_call4_cst : Ref sig .tc := ⟨.hbm, 125, rfl⟩
abbrev main_call4_v2 : Ref sig .tc := ⟨.hbm, 126, rfl⟩
abbrev main_call4_v3 : Ref sig .tc := ⟨.hbm, 127, rfl⟩
abbrev main_call4_cst_0 : Ref sig .tc := ⟨.hbm, 128, rfl⟩
abbrev main_call4_v4 : Ref sig .tc := ⟨.hbm, 129, rfl⟩
abbrev main_call4_v5 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_call5_v0 : Ref sig .tc := ⟨.hbm, 147, rfl⟩
abbrev main_call5_v1 : Ref sig .tc := ⟨.hbm, 148, rfl⟩
abbrev main_call5_cst : Ref sig .tc := ⟨.hbm, 149, rfl⟩
abbrev main_call5_v2 : Ref sig .tc := ⟨.hbm, 150, rfl⟩
abbrev main_call5_v3 : Ref sig .tc := ⟨.hbm, 151, rfl⟩
abbrev main_call5_cst_0 : Ref sig .tc := ⟨.hbm, 152, rfl⟩
abbrev main_call5_v4 : Ref sig .tc := ⟨.hbm, 153, rfl⟩
abbrev main_call5_v5 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call6_v0 : Ref sig .tc := ⟨.hbm, 171, rfl⟩
abbrev main_call6_v1 : Ref sig .tc := ⟨.hbm, 172, rfl⟩
abbrev main_call6_cst : Ref sig .tc := ⟨.hbm, 173, rfl⟩
abbrev main_call6_v2 : Ref sig .tc := ⟨.hbm, 174, rfl⟩
abbrev main_call6_v3 : Ref sig .tc := ⟨.hbm, 175, rfl⟩
abbrev main_call6_cst_0 : Ref sig .tc := ⟨.hbm, 176, rfl⟩
abbrev main_call6_v4 : Ref sig .tc := ⟨.hbm, 177, rfl⟩
abbrev main_call6_v5 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_call7_v0 : Ref sig .tc := ⟨.hbm, 195, rfl⟩
abbrev main_call7_v1 : Ref sig .tc := ⟨.hbm, 196, rfl⟩
abbrev main_call7_cst : Ref sig .tc := ⟨.hbm, 197, rfl⟩
abbrev main_call7_v2 : Ref sig .tc := ⟨.hbm, 198, rfl⟩
abbrev main_call7_v3 : Ref sig .tc := ⟨.hbm, 199, rfl⟩
abbrev main_call7_cst_0 : Ref sig .tc := ⟨.hbm, 200, rfl⟩
abbrev main_call7_v4 : Ref sig .tc := ⟨.hbm, 201, rfl⟩
abbrev main_call7_v5 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩

abbrev nD : Nat := 1
abbrev τ : Topo := Topo.v7x

variable {F : FTy → Type} [FloatOps F]
-- ==== Kernel2.lean ====
abbrev S16384x1024 : Shape := ⟨2, ![16384, 1024]⟩
abbrev S2x1x6144 : Shape := ⟨3, ![2, 1, 6144]⟩
abbrev S1024x2816 : Shape := ⟨2, ![1024, 2816]⟩
abbrev S2816x1024 : Shape := ⟨2, ![2816, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1x1x1024 : Shape := ⟨3, ![1, 1, 1024]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S1x1024 : Shape := ⟨2, ![1, 1024]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1x1024x2816, .bf16⟩
  | .hbm, ⟨8, _⟩ => ⟨S1024x2816, .bf16⟩
  | .hbm, ⟨9, _⟩ => ⟨S1x1024x2816, .bf16⟩
  | .hbm, ⟨10, _⟩ => ⟨S2816x1024, .bf16⟩
  | .hbm, ⟨11, _⟩ => ⟨S1x2816x1024, .bf16⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![32, 1, 2], ![false, false, false]⟩

def k0_cond2 (i : grid0.Coords) : BitVec 1 :=
  let arg1 : BitVec 32 := BitVec.ofNat 32 (i 1).val
  let c0_i32_21 : BitVec 32 := 0#32
  let v30 : BitVec 1 := Scalar.cmpi .eq arg1 c0_i32_21
  let arg2 : BitVec 32 := BitVec.ofNat 32 (i 2).val
  let c1_i32 : BitVec 32 := 1#32
  let v31 : BitVec 1 := Scalar.cmpi .eq arg2 c1_i32
  let v32 : BitVec 1 := Scalar.andi v30 v31
  let v33 : BitVec 32 := Scalar.extui v32
  let c0_i32_22 : BitVec 32 := 0#32
  let v34 : BitVec 1 := Scalar.cmpi .ne v33 c0_i32_22
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference2Ideal.lean ====
abbrev S16384x1024 : Shape := ⟨2, ![16384, 1024]⟩
abbrev S2x1x6144 : Shape := ⟨3, ![2, 1, 6144]⟩
abbrev S1024x2816 : Shape := ⟨2, ![1024, 2816]⟩
abbrev S2816x1024 : Shape := ⟨2, ![2816, 1024]⟩
abbrev S2x8192x1024 : Shape := ⟨3, ![2, 8192, 1024]⟩
abbrev S2x1x1024 : Shape := ⟨3, ![2, 1, 1024]⟩
abbrev S2x8192x2816 : Shape := ⟨3, ![2, 8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S2x8192x1024, .f32⟩
  | .hbm, ⟨8, _⟩ => ⟨S2x8192x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x8192x2816, .f32⟩
  | .hbm, ⟨16, _⟩ => ⟨S2x8192x2816, .f32⟩
  | .hbm, ⟨17, _⟩ => ⟨S2x8192x2816, .f32⟩
  | .hbm, ⟨18, _⟩ => ⟨S_, .f32⟩
  | .hbm, ⟨19, _⟩ => ⟨S2x8192x2816, .f32⟩
  | .hbm, ⟨20, _⟩ => ⟨S2x8192x2816, .f32⟩
  | .hbm, ⟨21, _⟩ => ⟨S_, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel3.lean ====
abbrev S16384x1024 : Shape := ⟨2, ![16384, 1024]⟩
abbrev S2x1x6144 : Shape := ⟨3, ![2, 1, 6144]⟩
abbrev S1024 : Shape := ⟨1, ![1024]⟩
abbrev S1024x3344 : Shape := ⟨2, ![1024, 3344]⟩
abbrev S1024x128 : Shape := ⟨2, ![1024, 128]⟩
abbrev S1024x256 : Shape := ⟨2, ![1024, 256]⟩
abbrev S1024x16 : Shape := ⟨2, ![1024, 16]⟩
abbrev S_ : Shape := ⟨0, ![]⟩
abbrev S1024x2560 : Shape := ⟨2, ![1024, 2560]⟩
abbrev S1024x3456 : Shape := ⟨2, ![1024, 3456]⟩
abbrev S1x1024 : Shape := ⟨2, ![1, 1024]⟩
abbrev S16384x896 : Shape := ⟨2, ![16384, 896]⟩
abbrev S16384x1536 : Shape := ⟨2, ![16384, 1536]⟩
abbrev S256x1024 : Shape := ⟨2, ![256, 1024]⟩
abbrev S1x1x1024 : Shape := ⟨3, ![1, 1, 1024]⟩
abbrev S256x896 : Shape := ⟨2, ![256, 896]⟩
abbrev S256x1536 : Shape := ⟨2, ![256, 1536]⟩
abbrev S256 : Shape := ⟨1, ![256]⟩
abbrev S256x1 : Shape := ⟨2, ![256, 1]⟩
abbrev S256x3456 : Shape := ⟨2, ![256, 3456]⟩

abbrev nBuf : Space → Nat
  | .hbm => 19
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1024, .f32⟩
  | .hbm, ⟨3, _⟩ => ⟨S1024x3344, .f32⟩
  | .hbm, ⟨4, _⟩ => ⟨S1024x128, .f32⟩
  | .hbm, ⟨5, _⟩ => ⟨S1024x128, .f32⟩
  | .hbm, ⟨6, _⟩ => ⟨S1024x256, .f32⟩
  | .hbm, ⟨7, _⟩ => ⟨S1024x16, .f32⟩
  | .hbm, ⟨8, _⟩ => ⟨S1024x256, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x2560, .f32⟩
  | .hbm, ⟨13, _⟩ => ⟨S1024x3456, .f32⟩
  | .hbm, ⟨14, _⟩ => ⟨S1024x3456, .bf16⟩
  | .hbm, ⟨15, _⟩ => ⟨S1x1024, .f32⟩
  | .hbm, ⟨16, _⟩ => ⟨S16384x896, .f32⟩
  | .hbm, ⟨17, _⟩ => ⟨S16384x1024, .f32⟩
  | .hbm, ⟨18, _⟩ => ⟨S16384x1536, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3456, .bf16⟩
  | .local _ .vmem, ⟨8, _⟩ => ⟨S256x896, .f32⟩
  | .local _ .vmem, ⟨9, _⟩ => ⟨S256x896, .f32⟩
  | .local _ .vmem, ⟨10, _⟩ => ⟨S256x1024, .f32⟩
  | .local _ .vmem, ⟨11, _⟩ => ⟨S256x1024, .f32⟩
  | .local _ .vmem, ⟨12, _⟩ => ⟨S256x1536, .f32⟩
  | .local _ .vmem, ⟨13, _⟩ => ⟨S256x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S2x1x6144 : Shape := ⟨3, ![2, 1, 6144]⟩
abbrev S1024 : Shape := ⟨1, ![1024]⟩
abbrev S1024x3344 : Shape := ⟨2, ![1024, 3344]⟩
abbrev S2x1x1024 : Shape := ⟨3, ![2, 1, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3344 : Shape := ⟨3, ![2, 8192, 3344]⟩
abbrev S2x8192x784 : Shape := ⟨3, ![2, 8192, 784]⟩
abbrev S2x8192x1536 : Shape := ⟨3, ![2, 8192, 1536]⟩
abbrev S2x8192x128 : Shape := ⟨3, ![2, 8192, 128]⟩
abbrev S2x8192x256 : Shape := ⟨3, ![2, 8192, 256]⟩
abbrev S2x8192x16 : Shape := ⟨3, ![2, 8192, 16]⟩
abbrev S2x8192x112 : Shape := ⟨3, ![2, 8192, 112]⟩
abbrev S2x8192x896 : Shape := ⟨3, ![2, 8192, 896]⟩
abbrev S16384x896 : Shape := ⟨2, ![16384, 896]⟩
abbrev S16384x1536 : Shape := ⟨2, ![16384, 1536]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1024, .f32⟩
  | .hbm, ⟨3, _⟩ => ⟨S1024x3344, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x3344, .f32⟩
  | .hbm, ⟨35, _⟩ => ⟨S2x8192x784, .f32⟩
  | .hbm, ⟨36, _⟩ => ⟨S2x8192x1024, .f32⟩
  | .hbm, ⟨37, _⟩ => ⟨S2x8192x1536, .f32⟩
  | .hbm, ⟨38, _⟩ => ⟨S2x8192x128, .f32⟩
  | .hbm, ⟨39, _⟩ => ⟨S2x8192x128, .f32⟩
  | .hbm, ⟨40, _⟩ => ⟨S2x8192x256, .f32⟩
  | .hbm, ⟨41, _⟩ => ⟨S2x8192x16, .f32⟩
  | .hbm, ⟨42, _⟩ => ⟨S2x8192x256, .f32⟩
  | .hbm, ⟨43, _⟩ => ⟨S_, .f32⟩
  | .hbm, ⟨44, _⟩ => ⟨S2x8192x112, .f32⟩
  | .hbm, ⟨45, _⟩ => ⟨S2x8192x896, .f32⟩
  | .hbm, ⟨46, _⟩ => ⟨S16384x896, .f32⟩
  | .hbm, ⟨47, _⟩ => ⟨S16384x1024, .f32⟩
  | .hbm, ⟨48, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S256x384 : Shape := ⟨2, ![256, 384]⟩
abbrev S8192x256 : Shape := ⟨2, ![8192, 256]⟩
abbrev S8192x128 : Shape := ⟨2, ![8192, 128]⟩
abbrev S2x256x256 : Shape := ⟨3, ![2, 256, 256]⟩
abbrev S2x256x128 : Shape := ⟨3, ![2, 256, 128]⟩
abbrev S1x256x256 : Shape := ⟨3, ![1, 256, 256]⟩
abbrev S1x256x128 : Shape := ⟨3, ![1, 256, 128]⟩
abbrev S1x128 : Shape := ⟨2, ![1, 128]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .f32⟩
  | .hbm, ⟨10, _⟩ => ⟨S_, .f32⟩
  | .hbm, ⟨11, _⟩ => ⟨S256x128, .f32⟩
  | .hbm, ⟨12, _⟩ => ⟨S256x384, .f32⟩
  | .hbm, ⟨13, _⟩ => ⟨S256x384, .bf16⟩
  | .hbm, ⟨14, _⟩ => ⟨S16384x512, .bf16⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x384, .bf16⟩
  | .local _ .vmem, ⟨7, _⟩ => ⟨S256x128, .bf16⟩
  | .local _ .vmem, ⟨8, _⟩ => ⟨S256x128, .bf16⟩
  | .local _ .vmem, ⟨9, _⟩ => ⟨S2x256x256, .f32⟩
  | .local _ .vmem, ⟨10, _⟩ => ⟨S2x256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v9 : BitVec 32 := Scalar.muli arg2 c256_i32
  v9
def k0_off1 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v12 : Index := Scalar.indexCast v10
  let c0_6 : Index := 0#32
  ![v12.toNat, 0]
def k0_off2 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v36 : Index := Scalar.indexCast v10
  let c128_15 : Index := 128#32
  ![v36.toNat, 128]
def k0_mult2 (i : grid0.Coords) : BitVec 32 :=
  let arg2 : BitVec 32 := BitVec.ofNat 32 (i 2).val
  let c256_i32_23 : BitVec 32 := 256#32
  let v59 : BitVec 32 := Scalar.muli arg2 c256_i32_23
  v59
def k0_off3 (i : grid0.Coords) : Fin 2 → Nat :=
  let arg2 : BitVec 32 := BitVec.ofNat 32 (i 2).val
  let c256_i32_23 : BitVec 32 := 256#32
  let v59 : BitVec 32 := Scalar.muli arg2 c256_i32_23
  let v60 : BitVec 32 := v59
  let v61 : Index := Scalar.indexCast v60
  let c0_24 : Index := 0#32
  ![v61.toNat, 0]
@[reducible] def k0_t1_loop (i : grid0.Coords) : Scf.Loop 32 :=
  let c0_i32 : BitVec 32 := 0#32
  let arg2 : BitVec 32 := BitVec.ofNat 32 (i 2).val
  let c1_i32 : BitVec 32 := 1#32
  let v89 : BitVec 32 := Scalar.addi arg2 c1_i32
  let v90 : BitVec 32 := Scalar.subi v89 c0_i32
  let c1_i32_37 : BitVec 32 := 1#32
  let v92 : BitVec 32 := Scalar.divsi v90 c1_i32_37
  let v93 : BitVec 32 := Scalar.muli v92 c1_i32_37
  let v94 : BitVec 32 := Scalar.addi c0_i32 v93
  let c1_i32_38 : BitVec 32 := 1#32
  ⟨c0_i32, v94, c1_i32_38⟩
def k0_mult3 (i : grid0.Coords) (k0_t1 : Fin (k0_t1_loop i).trips) : BitVec 32 :=
  let arg2 : BitVec 32 := BitVec.ofNat 32 (i 2).val
  let c0_i32 : BitVec 32 := 0#32
  let c1_i32_38 : BitVec 32 := 1#32
  let arg10 : BitVec 32 := Scf.iv c0_i32 c1_i32_38 k0_t1
  let v113 : BitVec 32 := Scalar.subi arg2 arg10
  let c0_i32_53 : BitVec 32 := 0#32
  let v114 : BitVec 32 := Scalar.maxsi v113 c0_i32_53
  let c256_i32_55 : BitVec 32 := 256#32
  let v116 : BitVec 32 := Scalar.muli v114 c256_i32_55
  v116
def k0_off4 (i : grid0.Coords) (k0_t1 : Fin (k0_t1_loop i).trips) : Fin 2 → Nat :=
  let arg2 : BitVec 32 := BitVec.ofNat 32 (i 2).val
  let c0_i32 : BitVec 32 := 0#32
  let c1_i32_38 : BitVec 32 := 1#32
  let arg10 : BitVec 32 := Scf.iv c0_i32 c1_i32_38 k0_t1
  let v113 : BitVec 32 := Scalar.subi arg2 arg10
  let c0_i32_53 : BitVec 32 := 0#32
  let v114 : BitVec 32 := Scalar.maxsi v113 c0_i32_53
  let c256_i32_55 : BitVec 32 := 256#32
  let v116 : BitVec 32 := Scalar.muli v114 c256_i32_55
  let v117 : BitVec 32 := v116
  let v118 : Index := Scalar.indexCast v117
  let c0_56 : Index := 0#32
  ![v118.toNat, 0]
def k0_mult4 (i : grid0.Coords) (k0_t1 : Fin (k0_t1_loop i).trips) : BitVec 32 :=
  let arg2 : BitVec 32 := BitVec.ofNat 32 (i 2).val
  let c1_i32_63 : BitVec 32 := 1#32
  let v142 : BitVec 32 := Scalar.subi arg2 c1_i32_63
  let c0_i32 : BitVec 32 := 0#32
  let c1_i32_38 : BitVec 32 := 1#32
  let arg10 : BitVec 32 := Scf.iv c0_i32 c1_i32_38 k0_t1
  let v143 : BitVec 32 := Scalar.subi v142 arg10
  let c0_i32_64 : BitVec 32 := 0#32
  let v144 : BitVec 32 := Scalar.maxsi v143 c0_i32_64
  let c256_i32_65 : BitVec 32 := 256#32
  let v145 : BitVec 32 := Scalar.muli v144 c256_i32_65
  v145
def k0_off5 (i : grid0.Coords) (k0_t1 : Fin (k0_t1_loop i).trips) : Fin 2 → Nat :=
  let arg2 : BitVec 32 := BitVec.ofNat 32 (i 2).val
  let c1_i32_63 : BitVec 32 := 1#32
  let v142 : BitVec 32 := Scalar.subi arg2 c1_i32_63
  let c0_i32 : BitVec 32 := 0#32
  let c1_i32_38 : BitVec 32 := 1#32
  let arg10 : BitVec 32 := Scf.iv c0_i32 c1_i32_38 k0_t1
  let v143 : BitVec 32 := Scalar.subi v142 arg10
  let c0_i32_64 : BitVec 32 := 0#32
  let v144 : BitVec 32 := Scalar.maxsi v143 c0_i32_64
  let c256_i32_65 : BitVec 32 := 256#32
  let v145 : BitVec 32 := Scalar.muli v144 c256_i32_65
  let v146 : BitVec 32 := v145
  let v148 : Index := Scalar.indexCast v146
  let c0_68 : Index := 0#32
  ![v148.toNat, 0]
def k0_off6 (i : grid0.Coords) (k0_t1 : Fin (k0_t1_loop i).trips) : Fin 2 → Nat :=
  let arg2 : BitVec 32 := BitVec.ofNat 32 (i 2).val
  let c1_i32_63 : BitVec 32 := 1#32
  let v142 : BitVec 32 := Scalar.subi arg2 c1_i32_63
  let c0_i32 : BitVec 32 := 0#32
  let c1_i32_38 : BitVec 32 := 1#32
  let arg10 : BitVec 32 := Scf.iv c0_i32 c1_i32_38 k0_t1
  let v143 : BitVec 32 := Scalar.subi v142 arg10
  let c0_i32_64 : BitVec 32 := 0#32
  let v144 : BitVec 32 := Scalar.maxsi v143 c0_i32_64
  let c256_i32_65 : BitVec 32 := 256#32
  let v145 : BitVec 32 := Scalar.muli v144 c256_i32_65
  let v146 : BitVec 32 := v145
  let v170 : Index := Scalar.indexCast v146
  let c128_77 : Index := 128#32
  ![v170.toNat, 128]
@[reducible] def k0_t2_loop (i : grid0.Coords) : Scf.Loop 32 :=
  let c0_i32 : BitVec 32 := 0#32
  let arg2 : BitVec 32 := BitVec.ofNat 32 (i 2).val
  let c1_i32 : BitVec 32 := 1#32
  let v89 : BitVec 32 := Scalar.addi arg2 c1_i32
  let v90 : BitVec 32 := Scalar.subi v89 c0_i32
  let c1_i32_37 : BitVec 32 := 1#32
  let v92 : BitVec 32 := Scalar.divsi v90 c1_i32_37
  let v93 : BitVec 32 := Scalar.muli v92 c1_i32_37
  let v94 : BitVec 32 := Scalar.addi c0_i32 v93
  let v91 : BitVec 32 := Scalar.addi c0_i32 v90
  let c1_i32_39 : BitVec 32 := 1#32
  ⟨v94, v91, c1_i32_39⟩
def k0_mult5 (i : grid0.Coords) (k0_t2 : Fin (k0_t2_loop i).trips) : BitVec 32 :=
  let arg2 : BitVec 32 := BitVec.ofNat 32 (i 2).val
  let c0_i32 : BitVec 32 := 0#32
  let c1_i32 : BitVec 32 := 1#32
  let v89 : BitVec 32 := Scalar.addi arg2 c1_i32
  let v90 : BitVec 32 := Scalar.subi v89 c0_i32
  let c1_i32_37 : BitVec 32 := 1#32
  let v92 : BitVec 32 := Scalar.divsi v90 c1_i32_37
  let v93 : BitVec 32 := Scalar.muli v92 c1_i32_37
  let v94 : BitVec 32 := Scalar.addi c0_i32 v93
  let c1_i32_39 : BitVec 32 := 1#32
  let arg10 : BitVec 32 := Scf.iv v94 c1_i32_39 k0_t2
  let v113 : BitVec 32 := Scalar.subi arg2 arg10
  let c0_i32_53 : BitVec 32 := 0#32
  let v114 : BitVec 32 := Scalar.maxsi v113 c0_i32_53
  let c256_i32_55 : BitVec 32 := 256#32
  let v116 : BitVec 32 := Scalar.muli v114 c256_i32_55
  v116
def k0_off7 (i : grid0.Coords) (k0_t2 : Fin (k0_t2_loop i).trips) : Fin 2 → Nat :=
  let arg2 : BitVec 32 := BitVec.ofNat 32 (i 2).val
  let c0_i32 : BitVec 32 := 0#32
  let c1_i32 : BitVec 32 := 1#32
  let v89 : BitVec 32 := Scalar.addi arg2 c1_i32
  let v90 : BitVec 32 := Scalar.subi v89 c0_i32
  let c1_i32_37 : BitVec 32 := 1#32
  let v92 : BitVec 32 := Scalar.divsi v90 c1_i32_37
  let v93 : BitVec 32 := Scalar.muli v92 c1_i32_37
  let v94 : BitVec 32 := Scalar.addi c0_i32 v93
  let c1_i32_39 : BitVec 32 := 1#32
  let arg10 : BitVec 32 := Scf.iv v94 c1_i32_39 k0_t2
  let v113 : BitVec 32 := Scalar.subi arg2 arg10
  let c0_i32_53 : BitVec 32 := 0#32
  let v114 : BitVec 32 := Scalar.maxsi v113 c0_i32_53
  let c256_i32_55 : BitVec 32 := 256#32
  let v116 : BitVec 32 := Scalar.muli v114 c256_i32_55
  let v117 : BitVec 32 := v116
  let v118 : Index := Scalar.indexCast v117
  let c0_56 : Index := 0#32
  ![v118.toNat, 0]
def k0_mult6 (i : grid0.Coords) (k0_t2 : Fin (k0_t2_loop i).trips) : BitVec 32 :=
  let arg2 : BitVec 32 := BitVec.ofNat 32 (i 2).val
  let c1_i32_63 : BitVec 32 := 1#32
  let v142 : BitVec 32 := Scalar.subi arg2 c1_i32_63
  let c0_i32 : BitVec 32 := 0#32
  let c1_i32 : BitVec 32 := 1#32
  let v89 : BitVec 32 := Scalar.addi arg2 c1_i32
  let v90 : BitVec 32 := Scalar.subi v89 c0_i32
  let c1_i32_37 : BitVec 32 := 1#32
  let v92 : BitVec 32 := Scalar.divsi v90 c1_i32_37
  let v93 : BitVec 32 := Scalar.muli v92 c1_i32_37
  let v94 : BitVec 32 := Scalar.addi c0_i32 v93
  let c1_i32_39 : BitVec 32 := 1#32
  let arg10 : BitVec 32 := Scf.iv v94 c1_i32_39 k0_t2
  let v143 : BitVec 32 := Scalar.subi v142 arg10
  let c0_i32_64 : BitVec 32 := 0#32
  let v144 : BitVec 32 := Scalar.maxsi v143 c0_i32_64
  let c256_i32_65 : BitVec 32 := 256#32
  let v145 : BitVec 32 := Scalar.muli v144 c256_i32_65
  v145
def k0_off8 (i : grid0.Coords) (k0_t2 : Fin (k0_t2_loop i).trips) : Fin 2 → Nat :=
  let arg2 : BitVec 32 := BitVec.ofNat 32 (i 2).val
  let c1_i32_63 : BitVec 32 := 1#32
  let v142 : BitVec 32 := Scalar.subi arg2 c1_i32_63
  let c0_i32 : BitVec 32 := 0#32
  let c1_i32 : BitVec 32 := 1#32
  let v89 : BitVec 32 := Scalar.addi arg2 c1_i32
  let v90 : BitVec 32 := Scalar.subi v89 c0_i32
  let c1_i32_37 : BitVec 32 := 1#32
  let v92 : BitVec 32 := Scalar.divsi v90 c1_i32_37
  let v93 : BitVec 32 := Scalar.muli v92 c1_i32_37
  let v94 : BitVec 32 := Scalar.addi c0_i32 v93
  let c1_i32_39 : BitVec 32 := 1#32
  let arg10 : BitVec 32 := Scf.iv v94 c1_i32_39 k0_t2
  let v143 : BitVec 32 := Scalar.subi v142 arg10
  let c0_i32_64 : BitVec 32 := 0#32
  let v144 : BitVec 32 := Scalar.maxsi v143 c0_i32_64
  let c256_i32_65 : BitVec 32 := 256#32
  let v145 : BitVec 32 := Scalar.muli v144 c256_i32_65
  let v146 : BitVec 32 := v145
  let v148 : Index := Scalar.indexCast v146
  let c0_68 : Index := 0#32
  ![v148.toNat, 0]
def k0_off9 (i : grid0.Coords) (k0_t2 : Fin (k0_t2_loop i).trips) : Fin 2 → Nat :=
  let arg2 : BitVec 32 := BitVec.ofNat 32 (i 2).val
  let c1_i32_63 : BitVec 32 := 1#32
  let v142 : BitVec 32 := Scalar.subi arg2 c1_i32_63
  let c0_i32 : BitVec 32 := 0#32
  let c1_i32 : BitVec 32 := 1#32
  let v89 : BitVec 32 := Scalar.addi arg2 c1_i32
  let v90 : BitVec 32 := Scalar.subi v89 c0_i32
  let c1_i32_37 : BitVec 32 := 1#32
  let v92 : BitVec 32 := Scalar.divsi v90 c1_i32_37
  let v93 : BitVec 32 := Scalar.muli v92 c1_i32_37
  let v94 : BitVec 32 := Scalar.addi c0_i32 v93
  let c1_i32_39 : BitVec 32 := 1#32
  let arg10 : BitVec 32 := Scf.iv v94 c1_i32_39 k0_t2
  let v143 : BitVec 32 := Scalar.subi v142 arg10
  let c0_i32_64 : BitVec 32 := 0#32
  let v144 : BitVec 32 := Scalar.maxsi v143 c0_i32_64
  let c256_i32_65 : BitVec 32 := 256#32
  let v145 : BitVec 32 := Scalar.muli v144 c256_i32_65
  let v146 : BitVec 32 := v145
  let v170 : Index := Scalar.indexCast v146
  let c128_77 : Index := 128#32
  ![v170.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel4Ideal.lean ====
variable {F : FTy → Type} [FloatOps F] [Named F]
def κ : String → Option EReal := fun
  | "inv_log_two" => some (((Real.log 2)⁻¹ : ℝ) : EReal)
  | _ => none
-- ==== Reference4Ideal.lean ====
abbrev S16384x1024 : Shape := ⟨2, ![16384, 1024]⟩
abbrev S16384x512 : Shape := ⟨2, ![16384, 512]⟩
abbrev S2x8192x8x128 : Shape := ⟨4, ![2, 8192, 8, 128]⟩
abbrev S2x8192x8x64 : Shape := ⟨4, ![2, 8192, 8, 64]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S2x8192x8x128, .f32⟩
  | .hbm, ⟨5, _⟩ => ⟨S16384x1024, .f32⟩
  | .hbm, ⟨6, _⟩ => ⟨S2x8192x8x128, .f32⟩
  | .hbm, ⟨7, _⟩ => ⟨S16384x512, .f32⟩
  | .hbm, ⟨8, _⟩ => ⟨S2x8192x8x64, .f32⟩
  | .hbm, ⟨9, _⟩ => ⟨S2x8x8192x8192, .f32⟩
  | .hbm, ⟨10, _⟩ => ⟨S_, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S8192, .i32⟩
  | .hbm, ⟨15, _⟩ => ⟨S1x8192, .i32⟩
  | .hbm, ⟨16, _⟩ => ⟨S8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S2x8x8192x8192, .f32⟩
  | .hbm, ⟨22, _⟩ => ⟨S2x8x8192x8192, .f32⟩
  | .hbm, ⟨23, _⟩ => ⟨S_, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .i1⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S_, .f32⟩
  | .hbm, ⟨39, _⟩ => ⟨S_, .f32⟩
  | .hbm, ⟨40, _⟩ => ⟨S2x8x8192x8192, .i1⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S_, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S_, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .i1⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S2x8x8192x8192, .f32⟩
  | .hbm, ⟨62, _⟩ => ⟨S2x8x8192x8192, .f32⟩
  | .hbm, ⟨63, _⟩ => ⟨S2x8x8192x8192, .f32⟩
  | .hbm, ⟨64, _⟩ => ⟨S2x8x8192x8192, .f32⟩
  | .hbm, ⟨65, _⟩ => ⟨S_, .f32⟩
  | .hbm, ⟨66, _⟩ => ⟨S_, .f32⟩
  | .hbm, ⟨67, _⟩ => ⟨S2x8x8192x8192, .i1⟩
  | .hbm, ⟨68, _⟩ => ⟨S2x8x8192x8192, .f32⟩
  | .hbm, ⟨69, _⟩ => ⟨S2x8x8192x8192, .f32⟩
  | .hbm, ⟨70, _⟩ => ⟨S2x8x64x8192, .f32⟩
  | .hbm, ⟨71, _⟩ => ⟨S2x8192x8x64, .f32⟩
  | .hbm, ⟨72, _⟩ => ⟨S2x8192x8x64, .bf16⟩
  | .hbm, ⟨73, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_cst : Ref sig .tc := ⟨.hbm, 43, rfl⟩
abbrev main_call2_v0 : Ref sig .tc := ⟨.hbm, 44, rfl⟩
abbrev main_v20 : Ref sig .tc := ⟨.hbm, 45, rfl⟩
abbrev main_v21 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩

abbrev nD : Nat := 1
abbrev τ : Topo := Topo.v7x

variable {F : FTy → Type} [FloatOps F]
-- ==== Kernel5.lean ====
abbrev S16384x256 : Shape := ⟨2, ![16384, 256]⟩
abbrev S16384x512 : Shape := ⟨2, ![16384, 512]⟩
abbrev S16384x1024 : Shape := ⟨2, ![16384, 1024]⟩
abbrev S2x1x6144 : Shape := ⟨3, ![2, 1, 6144]⟩
abbrev S1024 : Shape := ⟨1, ![1024]⟩
abbrev S1024x1024 : Shape := ⟨2, ![1024, 1024]⟩
abbrev S256x1024 : Shape := ⟨2, ![256, 1024]⟩
abbrev S512x1024 : Shape := ⟨2, ![512, 1024]⟩
abbrev S1x1024 : Shape := ⟨2, ![1, 1024]⟩
abbrev S512x256 : Shape := ⟨2, ![512, 256]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 16
  | .vmem => 22
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x512, .bf16⟩
  | .hbm, ⟨3, _⟩ => ⟨S16384x1024, .f32⟩
  | .hbm, ⟨4, _⟩ => ⟨S2x1x6144, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S256x1024, .bf16⟩
  | .hbm, ⟨9, _⟩ => ⟨S256x1024, .f32⟩
  | .hbm, ⟨10, _⟩ => ⟨S256x1024, .bf16⟩
  | .hbm, ⟨11, _⟩ => ⟨S512x1024, .f32⟩
  | .hbm, ⟨12, _⟩ => ⟨S512x1024, .bf16⟩
  | .hbm, ⟨13, _⟩ => ⟨S1x1024, .f32⟩
  | .hbm, ⟨14, _⟩ => ⟨S16384x1024, .f32⟩
  | .hbm, ⟨15, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S16384x256 : Shape := ⟨2, ![16384, 256]⟩
abbrev S16384x512 : Shape := ⟨2, ![16384, 512]⟩
abbrev S16384x1024 : Shape := ⟨2, ![16384, 1024]⟩
abbrev S2x1x6144 : Shape := ⟨3, ![2, 1, 6144]⟩
abbrev S1024 : Shape := ⟨1, ![1024]⟩
abbrev S1024x1024 : Shape := ⟨2, ![1024, 1024]⟩
abbrev S2x8192x256 : Shape := ⟨3, ![2, 8192, 256]⟩
abbrev S2x8192x512 : Shape := ⟨3, ![2, 8192, 512]⟩
abbrev S2x1x1024 : Shape := ⟨3, ![2, 1, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x512, .bf16⟩
  | .hbm, ⟨3, _⟩ => ⟨S16384x1024, .f32⟩
  | .hbm, ⟨4, _⟩ => ⟨S2x1x6144, .f32⟩
  | .hbm, ⟨5, _⟩ => ⟨S1024, .f32⟩
  | .hbm, ⟨6, _⟩ => ⟨S1024x1024, .f32⟩
  | .hbm, ⟨7, _⟩ => ⟨S16384x256, .f32⟩
  | .hbm, ⟨8, _⟩ => ⟨S2x8192x256, .f32⟩
  | .hbm, ⟨9, _⟩ => ⟨S16384x256, .f32⟩
  | .hbm, ⟨10, _⟩ => ⟨S2x8192x256, .f32⟩
  | .hbm, ⟨11, _⟩ => ⟨S16384x512, .f32⟩
  | .hbm, ⟨12, _⟩ => ⟨S2x8192x512, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x1x1024, .f32⟩
  | .hbm, ⟨43, _⟩ => ⟨S2x1x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S16384x1024, .f32⟩
  | .hbm, ⟨49, _⟩ => ⟨S2x8192x1024, .bf16⟩
  | .hbm, ⟨50, _⟩ => ⟨S16384x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.MoeCases.lean ====
/-
  The named terms of the expert kernel's three kinds of grid point, read as values: the first point of a row block
  starts the accumulator from zero, every point adds its expert's slab, the last point writes the block.
-/
module

public import proofs.«01_k».proof.Proof.Gen.KernelIdeal.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a row block leaves its slab added to the zero block. -/
theorem sout_A (c : Dev nD) (i : grid0.Coords) (arg3 : Memref sig .tc .vmem S512x1024 .bf16) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S512x128 .f32) (harg6 : arg6.IsWhole) (arg7 : Memref sig .tc .vmem S1x1024x896 .bf16) (harg7 : arg7.IsWhole) (arg8 : Memref sig .tc .vmem S1x1024x896 .bf16) (harg8 : arg8.IsWhole) (arg9 : Memref sig .tc .vmem S1x896x1024 .bf16) (harg9 : arg9.IsWhole) (arg10 : Memref sig .tc .vmem S512x1024 .f32) (harg10 : arg10.IsWhole) (arg11 : Memref sig .tc .vmem S512x1024 .f32) (harg11 : arg11.IsWhole) (hc0 : cond0_0 i) (hc1 : ¬cond0_1 i) (x0 : Vec F S512x1024 .bf16) (x1 : Vec F S512x1024 .f32) (x2 : Vec F S1x1x1024 .f32) (x3 : Vec F S512x128 .f32) (x4 : Vec F S1x1024x896 .bf16) (x5 : Vec F S1x1024x896 .bf16) (x6 : Vec F S1x896x1024 .bf16) :
    sout0_A_0 c i arg3 harg3 arg4 harg4 arg5 harg5 arg6 harg6 arg7 harg7 arg8 harg8 arg9 harg9 arg10 harg10 arg11 harg11 hc0 hc1 x0 x1 x2 x3 x4 x5 x6
      = k0_pay1 k0_pay3 (k0_pay4 i x0 x4 x5 x3) x6 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg7.read_unread, harg8.read_unread, harg9.read_unread, harg10.read_unread, harg11.read_unread, View.ld_unit_zero (S := S512x1024) hz2, View.ld_unit_zero (S := S512x128) hz2, View.ld_unit_zero (S := S1x1024x896) hz3, View.ld_unit_zero (S := S1x896x1024) hz3, View.ld_unit_zero (S := S1x1x1024) hz3]

/-- A middle point leaves its slab added to what it found. -/
theorem sout_B (c : Dev nD) (i : grid0.Coords) (arg3 : Memref sig .tc .vmem S512x1024 .bf16) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S512x128 .f32) (harg6 : arg6.IsWhole) (arg7 : Memref sig .tc .vmem S1x1024x896 .bf16) (harg7 : arg7.IsWhole) (arg8 : Memref sig .tc .vmem S1x1024x896 .bf16) (harg8 : arg8.IsWhole) (arg9 : Memref sig .tc .vmem S1x896x1024 .bf16) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc1 : ¬cond0_1 i) (x0 : Vec F S512x1024 .bf16) (x1 : Vec F S512x1024 .f32) (x2 : Vec F S1x1x1024 .f32) (x3 : Vec F S512x128 .f32) (x4 : Vec F S1x1024x896 .bf16) (x5 : Vec F S1x1024x896 .bf16) (x6 : Vec F S1x896x1024 .bf16) (xs0 : Vec F S512x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0
      = k0_pay1 xs0 (k0_pay4 i x0 x4 x5 x3) x6 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero (S := S512x1024) hz2]
  simp only [View.readAt_eq_ld, harg3.read_unread, harg4.read_unread, harg5.read_unread, harg6.read_unread, harg7.read_unread, harg8.read_unread, harg9.read_unread, harg10.read_unread, harg11.read_unread, View.ld_unit_zero (S := S512x1024) hz2, View.ld_unit_zero (S := S512x128) hz2, View.ld_unit_zero (S := S1x1024x896) hz3, View.ld_unit_zero (S := S1x896x1024) hz3, View.ld_unit_zero (S := S1x1x1024) hz3]

/-- The last point adds its slab too. -/
theorem sout_C (c : Dev nD) (i : grid0.Coords) (arg3 : Memref sig .tc .vmem S512x1024 .bf16) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S512x128 .f32) (harg6 : arg6.IsWhole) (arg7 : Memref sig .tc .vmem S1x1024x896 .bf16) (harg7 : arg7.IsWhole) (arg8 : Memref sig .tc .vmem S1x1024x896 .bf16) (harg8 : arg8.IsWhole) (arg9 : Memref sig .tc .vmem S1x896x1024 .bf16) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc1 : cond0_1 i) (x0 : Vec F S512x1024 .bf16) (x1 : Vec F S512x1024 .f32) (x2 : Vec F S1x1x1024 .f32) (x3 : Vec F S512x128 .f32) (x4 : Vec F S1x1024x896 .bf16) (x5 : Vec F S1x1024x896 .bf16) (x6 : Vec F S1x896x1024 .bf16) (xs0 : Vec F S512x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0
      = k0_pay1 xs0 (k0_pay4 i x0 x4 x5 x3) x6 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero (S := S512x1024) hz2]
  simp only [View.readAt_eq_ld, harg3.read_unread, harg4.read_unread, harg5.read_unread, harg6.read_unread, harg7.read_unread, harg8.read_unread, harg9.read_unread, harg10.read_unread, harg11.read_unread, View.ld_unit_zero (S := S512x1024) hz2, View.ld_unit_zero (S := S512x128) hz2, View.ld_unit_zero (S := S1x1024x896) hz3, View.ld_unit_zero (S := S1x896x1024) hz3, View.ld_unit_zero (S := S1x1x1024) hz3]

/-- The last point writes the residual plus the gated total. -/
theorem out_C (c : Dev nD) (i : grid0.Coords) (arg3 : Memref sig .tc .vmem S512x1024 .bf16) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S512x128 .f32) (harg6 : arg6.IsWhole) (arg7 : Memref sig .tc .vmem S1x1024x896 .bf16) (harg7 : arg7.IsWhole) (arg8 : Memref sig .tc .vmem S1x1024x896 .bf16) (harg8 : arg8.IsWhole) (arg9 : Memref sig .tc .vmem S1x896x1024 .bf16) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc1 : cond0_1 i) (x0 : Vec F S512x1024 .bf16) (x1 : Vec F S512x1024 .f32) (x2 : Vec F S1x1x1024 .f32) (x3 : Vec F S512x128 .f32) (x4 : Vec F S1x1024x896 .bf16) (x5 : Vec F S1x1024x896 .bf16) (x6 : Vec F S1x896x1024 .bf16) (xs0 : Vec F S512x1024 .f32) :
    out0_C_7 c i arg3 harg3 arg4 harg4 arg5 harg5 arg6 harg6 arg7 harg7 arg8 harg8 arg9 harg9 arg10 harg10 arg11 harg11 hc0 hc1 x0 x1 x2 x3 x4 x5 x6 xs0
      = k0_pay2 x1 x2 (k0_pay1 xs0 (k0_pay4 i x0 x4 x5 x3) x6) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero (S := S512x1024) hz2, View.readCov_unit_zero (S := S512x1024) _ hz2]
  simp only [View.readAt_eq_ld, harg3.read_unread, harg4.read_unread, harg5.read_unread, harg6.read_unread, harg7.read_unread, harg8.read_unread, harg9.read_unread, harg10.read_unread, harg11.read_unread, View.ld_unit_zero (S := S512x1024) hz2, View.ld_unit_zero (S := S512x128) hz2, View.ld_unit_zero (S := S1x1024x896) hz3, View.ld_unit_zero (S := S1x896x1024) hz3, View.ld_unit_zero (S := S1x1x1024) hz3]

end Cert.KernelIdeal.Value

end
-- ==== Proof.MoeBlocks.lean ====
/-
  The blocks the expert kernel's grid points read, as entries of the arguments: point `t` of the 1024 works on
  row block `t / 32`, expert `t % 32 / 4`, hidden tile `t % 4`.
-/
module

public import proofs.«01_k».proof.Proof.MoeCases
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

theorem hN : cfg0.N = 1024 := N_0

theorem idx0 : ∀ t : Fin cfg0.N, win0_0.index t (0 : Fin 2) = t.val / 32 ∧ win0_0.index t (1 : Fin 2) = 0 := by decide +kernel
theorem idx1 : ∀ t : Fin cfg0.N, win0_1.index t (0 : Fin 2) = t.val / 32 ∧ win0_1.index t (1 : Fin 2) = 0 := by decide +kernel
theorem idx2 : ∀ t : Fin cfg0.N, win0_2.index t (0 : Fin 3) = t.val / 32 / 16 ∧ win0_2.index t (1 : Fin 3) = 0 ∧ win0_2.index t (2 : Fin 3) = 5 := by decide +kernel
theorem idx3 : ∀ t : Fin cfg0.N, win0_3.index t (0 : Fin 2) = t.val / 32 ∧ win0_3.index t (1 : Fin 2) = 0 := by decide +kernel
theorem idx4 : ∀ t : Fin cfg0.N, win0_4.index t (0 : Fin 3) = t.val % 32 / 4 ∧ win0_4.index t (1 : Fin 3) = 0 ∧ win0_4.index t (2 : Fin 3) = t.val % 4 := by decide +kernel
theorem idx5 : ∀ t : Fin cfg0.N, win0_5.index t (0 : Fin 3) = t.val % 32 / 4 ∧ win0_5.index t (1 : Fin 3) = 0 ∧ win0_5.index t (2 : Fin 3) = t.val % 4 := by decide +kernel
theorem idx6 : ∀ t : Fin cfg0.N, win0_6.index t (0 : Fin 3) = t.val % 32 / 4 ∧ win0_6.index t (1 : Fin 3) = t.val % 4 ∧ win0_6.index t (2 : Fin 3) = 0 := by decide +kernel
theorem coord1 : ∀ t : Fin cfg0.N, (grid0.coords t 1).val = t.val % 32 / 4 := by decide +kernel

variable (m : (ℓ : Loc nD τ sig) → Buf (Elt Ideal) ℓ)

theorem V_w1 (c : Dev nD) : V m c main_v0 = m ((c : Thread nD τ).loc main_arg3) := by
  show StableHlo.after hostOps0 (fun b => m (c, b)) main_v0 = _
  after_results
  rfl
theorem V_w3 (c : Dev nD) : V m c main_v1 = m ((c : Thread nD τ).loc main_arg4) := by
  show StableHlo.after hostOps0 (fun b => m (c, b)) main_v1 = _
  after_results
  rfl
theorem V_w2 (c : Dev nD) : V m c main_v2 = m ((c : Thread nD τ).loc main_arg5) := by
  show StableHlo.after hostOps0 (fun b => m (c, b)) main_v2 = _
  after_results
  rfl

/-- Row `r` of row block `t / 32`. -/
abbrev rowOf (t : Fin cfg0.N) (r : Fin 512) : Fin 16384 := ⟨512 * (t.val / 32) + r.val, by have := t.isLt; have := hN; omega⟩
/-- The expert of point `t`. -/
abbrev exOf (t : Fin cfg0.N) : Fin 8 := ⟨t.val % 32 / 4, by omega⟩
/-- Hidden column `f` of the tile of point `t`. -/
abbrev colOf (t : Fin cfg0.N) (f : Fin 896) : Fin 3584 := ⟨t.val % 4 * 896 + f.val, by omega⟩
/-- The batch of point `t`. -/
abbrev batOf (t : Fin cfg0.N) : Fin 2 := ⟨t.val / 32 / 16, by have := t.isLt; have := hN; omega⟩

theorem blk0 (c : Dev nD) (t : Fin cfg0.N) (r : Fin 512) (k : Fin 1024) :
    (iblk m c 0 t : Vec Ideal S512x1024 .bf16) (ix2 r k) = m ((c : Thread nD τ).loc main_arg0) (ix2 (rowOf t r) k) := by
  rw [← V_main_arg0 m c]
  unfold iblk
  rw [View.read_apply]
  show V m c main_arg0 _ = V m c main_arg0 _
  congr 1; funext a; apply Fin.ext
  obtain ⟨e0, e1⟩ := idx0 t
  match a with
  | ⟨0, _⟩ => show win0_0.index t (0 : Fin 2) * 512 + 1 * r.val = 512 * (t.val / 32) + r.val; omega
  | ⟨1, _⟩ => show win0_0.index t (1 : Fin 2) * 1024 + 1 * k.val = k.val; omega

theorem blk1 (c : Dev nD) (t : Fin cfg0.N) (r : Fin 512) (k : Fin 1024) :
    (iblk m c 1 t : Vec Ideal S512x1024 .f32) (ix2 r k) = m ((c : Thread nD τ).loc main_arg1) (ix2 (rowOf t r) k) := by
  rw [← V_main_arg1 m c]
  unfold iblk
  rw [View.read_apply]
  show V m c main_arg1 _ = V m c main_arg1 _
  congr 1; funext a; apply Fin.ext
  obtain ⟨e0, e1⟩ := idx1 t
  match a with
  | ⟨0, _⟩ => show win0_1.index t (0 : Fin 2) * 512 + 1 * r.val = 512 * (t.val / 32) + r.val; omega
  | ⟨1, _⟩ => show win0_1.index t (1 : Fin 2) * 1024 + 1 * k.val = k.val; omega

theorem blk2 (c : Dev nD) (t : Fin cfg0.N) (k : Fin 1024) :
    (iblk m c 2 t : Vec Ideal S1x1x1024 .f32) (ix3 0 0 k) = m ((c : Thread nD τ).loc main_arg2) (ix3 (batOf t) 0 ⟨5120 + k.val, by omega⟩) := by
  rw [← V_main_arg2 m c]
  unfold iblk
  rw [View.read_apply]
  show V m c main_arg2 _ = V m c main_arg2 _
  congr 1; funext a; apply Fin.ext
  obtain ⟨e0, e1, e2⟩ := idx2 t
  match a with
  | ⟨0, _⟩ => show win0_2.index t (0 : Fin 3) * 1 + 1 * 0 = t.val / 32 / 16; omega
  | ⟨1, _⟩ => show win0_2.index t (1 : Fin 3) * 1 + 1 * 0 = 0; omega
  | ⟨2, _⟩ => show win0_2.index t (2 : Fin 3) * 1024 + 1 * k.val = 5120 + k.val; omega

theorem blk3 (c : Dev nD) (t : Fin cfg0.N) (r : Fin 512) (k : Fin 128) :
    (iblk m c 3 t : Vec Ideal S512x128 .f32) (ix2 r k) = m ((c : Thread nD τ).loc main_arg6) (ix2 (rowOf t r) k) := by
  rw [← V_main_arg6 m c]
  unfold iblk
  rw [View.read_apply]
  show V m c main_arg6 _ = V m c main_arg6 _
  congr 1; funext a; apply Fin.ext
  obtain ⟨e0, e1⟩ := idx3 t
  match a with
  | ⟨0, _⟩ => show win0_3.index t (0 : Fin 2) * 512 + 1 * r.val = 512 * (t.val / 32) + r.val; omega
  | ⟨1, _⟩ => show win0_3.index t (1 : Fin 2) * 128 + 1 * k.val = k.val; omega

theorem blk4 (c : Dev nD) (t : Fin cfg0.N) (k : Fin 1024) (f : Fin 896) :
    (iblk m c 4 t : Vec Ideal S1x1024x896 .bf16) (ix3 0 k f) = m ((c : Thread nD τ).loc main_arg3) (ix3 (exOf t) k (colOf t f)) := by
  rw [← V_w1 m c]
  unfold iblk
  rw [View.read_apply]
  show V m c main_v0 _ = V m c main_v0 _
  congr 1; funext a; apply Fin.ext
  obtain ⟨e0, e1, e2⟩ := idx4 t
  match a with
  | ⟨0, _⟩ => show win0_4.index t (0 : Fin 3) * 1 + 1 * 0 = t.val % 32 / 4; omega
  | ⟨1, _⟩ => show win0_4.index t (1 : Fin 3) * 1024 + 1 * k.val = k.val; omega
  | ⟨2, _⟩ => show win0_4.index t (2 : Fin 3) * 896 + 1 * f.val = t.val % 4 * 896 + f.val; omega

theorem blk5 (c : Dev nD) (t : Fin cfg0.N) (k : Fin 1024) (f : Fin 896) :
    (iblk m c 5 t : Vec Ideal S1x1024x896 .bf16) (ix3 0 k f) = m ((c : Thread nD τ).loc main_arg4) (ix3 (exOf t) k (colOf t f)) := by
  rw [← V_w3 m c]
  unfold iblk
  rw [View.read_apply]
  show V m c main_v1 _ = V m c main_v1 _
  congr 1; funext a; apply Fin.ext
  obtain ⟨e0, e1, e2⟩ := idx5 t
  match a with
  | ⟨0, _⟩ => show win0_5.index t (0 : Fin 3) * 1 + 1 * 0 = t.val % 32 / 4; omega
  | ⟨1, _⟩ => show win0_5.index t (1 : Fin 3) * 1024 + 1 * k.val = k.val; omega
  | ⟨2, _⟩ => show win0_5.index t (2 : Fin 3) * 896 + 1 * f.val = t.val % 4 * 896 + f.val; omega

theorem blk6 (c : Dev nD) (t : Fin cfg0.N) (f : Fin 896) (l : Fin 1024) :
    (iblk m c 6 t : Vec Ideal S1x896x1024 .bf16) (ix3 0 f l) = m ((c : Thread nD τ).loc main_arg5) (ix3 (exOf t) (colOf t f) l) := by
  rw [← V_w2 m c]
  unfold iblk
  rw [View.read_apply]
  show V m c main_v2 _ = V m c main_v2 _
  congr 1; funext a; apply Fin.ext
  obtain ⟨e0, e1, e2⟩ := idx6 t
  match a with
  | ⟨0, _⟩ => show win0_6.index t (0 : Fin 3) * 1 + 1 * 0 = t.val % 32 / 4; omega
  | ⟨1, _⟩ => show win0_6.index t (1 : Fin 3) * 896 + 1 * f.val = t.val % 4 * 896 + f.val; omega
  | ⟨2, _⟩ => show win0_6.index t (2 : Fin 3) * 1024 + 1 * l.val = l.val; omega

end Cert.KernelIdeal.Value

end
-- ==== Proof.FfnSums.lean ====
/-
  The arithmetic shared by the two feed-forward calls: the gated hidden value, sums scaled by a gate,
  the one lane a gate is read from.
-/
module

public import Idealize.ShloMosaic.Lib.Pointwise

@[expose] public section

noncomputable section

namespace Cert.Ffn

open Idealize.ShloMosaic

/-- The hidden value of the feed-forward part: `silu(a) · b`. -/
def hid (a b : EReal) : EReal := a * Ideal.div 1 (1 + Ideal.exp (-a)) * b

/-- What one hidden column adds to a result: input row `h`, the column's weights `a`, `b`, its output weight `w`. -/
def term {n : ℕ} (h a b : Fin n → EReal) (w : EReal) : EReal := hid (∑ k, h k * a k) (∑ k, h k * b k) * w

/-- A gate that is nonnegative and finite distributes over a sum of extended reals. -/
theorem mul_sum {n : ℕ} (g : EReal) (h0 : 0 ≤ g) (ht : g ≠ ⊤) (f : Fin n → EReal) :
    g * ∑ x, f x = ∑ x, g * f x := by
  induction n with
  | zero => simp
  | succ n ih => rw [Fin.sum_univ_succ, Fin.sum_univ_succ, EReal.left_distrib_of_nonneg_of_ne_top h0 ht, ih]

/-- The sum over the lanes of a row masked to one lane is that lane. -/
theorem lane_sum (e : ℕ) (he : e < 128) (x : Fin 128 → EReal) :
    (∑ l : Fin 128, Scalar.select (IntOp.cmpi CmpIPredicate.eq (BitVec.ofNat 32 l.val) (BitVec.ofNat 32 e)) (x l) (0 : EReal))
      = x ⟨e, he⟩ := by
  rw [Finset.sum_eq_single ⟨e, he⟩]
  · simp [Scalar.select, IntOp.cmpi]
  · intro l _ hl
    have : ¬ (BitVec.ofNat 32 l.val = BitVec.ofNat 32 e) := by
      intro h
      have h1 := congrArg BitVec.toNat h
      simp only [BitVec.toNat_ofNat] at h1
      apply hl; apply Fin.ext
      have := l.isLt
      show l.val = e
      omega
    have hb : (BitVec.ofNat 32 l.val == BitVec.ofNat 32 e) = false := beq_eq_false_iff_ne.mpr this
    simp [Scalar.select, IntOp.cmpi, hb]
  · intro h; exact absurd (Finset.mem_univ _) h

end Cert.Ffn

end
-- ==== Proof.MoeFold.lean ====
/-
  What the expert kernel leaves in its result, as one formula over the arguments: a grid point adds its expert's
  share of one hidden tile, the thirty-two points of a row block add up to the gated sum of the eight experts.
-/
module

public import proofs.«01_k».proof.Proof.MoeBlocks
public import proofs.«01_k».proof.Proof.FfnSums

@[expose] public section

set_option maxRecDepth 16384

noncomputable section

namespace Cert.KernelIdeal.Value

open Cert.KernelIdeal Cert.KernelIdeal.Gen Idealize.ShloMosaic Idealize.ShloMosaic.TcCoe Idealize.SL.Sem

/-- A slab at an element: the accumulator plus the gate lane of the point's expert times the tile's share. -/
theorem slab_apply (i : grid0.Coords) (x0 : Vec Ideal S512x1024 .bf16) (x3 : Vec Ideal S512x128 .f32)
    (x4 x5 : Vec Ideal S1x1024x896 .bf16) (x6 : Vec Ideal S1x896x1024 .bf16) (acc : Vec Ideal S512x1024 .f32)
    (r : Fin 512) (l : Fin 1024) (e : ℕ) (he : e < 128) (hi : (i 1).val = e) :
    (k0_pay1 acc (k0_pay4 i x0 x4 x5 x3) x6 (ix2 r l) : EReal) = acc (ix2 r l) + ∑ f : Fin 896, x3 (ix2 r ⟨e, he⟩) *
      Ffn.term (fun k : Fin 1024 => x0 (ix2 r k)) (fun k => x4 (ix3 0 k f)) (fun k => x5 (ix3 0 k f)) (x6 (ix3 0 f l)) := by
  pointwise [k0_pay1, k0_pay4]
  rw [hi]
  refine congrArg _ (Finset.sum_congr rfl fun f _ => ?_)
  rw [Ffn.lane_sum e he (fun x => x3 (ix2 r x)), zero_sub, mul_comm (_ * _) (x3 _), mul_assoc]
  rfl

/-- The zero block. -/
theorem zero_apply (r : Fin 512) (l : Fin 1024) : (k0_pay3 (F := Ideal) (ix2 r l) : EReal) = 0 := by
  pointwise [k0_pay3]

/-- The closing write at an element. -/
theorem final_apply (x1 acc : Vec Ideal S512x1024 .f32) (x2 : Vec Ideal S1x1x1024 .f32) (r : Fin 512) (l : Fin 1024) :
    (k0_pay2 x1 x2 acc (ix2 r l) : EReal) = x1 (ix2 r l) + x2 (ix3 0 0 l) * acc (ix2 r l) := by
  pointwise [k0_pay2]

variable (m : (ℓ : Loc nD τ sig) → Buf (Elt Ideal) ℓ)

/-- The share of hidden column `f` of expert `e` in column `l` of row `R`. -/
def share (c : Dev nD) (R : Fin 16384) (e : Fin 8) (l : Fin 1024) (f : Fin 3584) : EReal :=
  Ffn.term (fun k : Fin 1024 => m ((c : Thread nD τ).loc main_arg0) (ix2 R k)) (fun k => m ((c : Thread nD τ).loc main_arg3) (ix3 e k f))
    (fun k => m ((c : Thread nD τ).loc main_arg4) (ix3 e k f)) (m ((c : Thread nD τ).loc main_arg5) (ix3 e f l))

/-- The gate of expert `e` for row `R`. -/
def gate (c : Dev nD) (R : Fin 16384) (e : Fin 8) : EReal :=
  m ((c : Thread nD τ).loc main_arg6) (ix2 R (⟨e.val, by omega⟩ : Fin 128))

/-- What point `t` adds at `(r, l)`. -/
def added (c : Dev nD) (t : Fin cfg0.N) (r : Fin 512) (l : Fin 1024) : EReal :=
  ∑ f : Fin 896, gate m c (rowOf t r) (exOf t) * share m c (rowOf t r) (exOf t) l (colOf t f)

theorem step_apply (c : Dev nD) (t : Fin cfg0.N) (acc : Vec Ideal S512x1024 .f32) (r : Fin 512) (l : Fin 1024) :
    (k0_pay1 acc (k0_pay4 (grid0.coords t) (iblk m c 0 t) (iblk m c 4 t) (iblk m c 5 t) (iblk m c 3 t)) (iblk m c 6 t) (ix2 r l) : EReal)
      = acc (ix2 r l) + added m c t r l := by
  refine (slab_apply (grid0.coords t) (iblk m c 0 t) (iblk m c 3 t) (iblk m c 4 t) (iblk m c 5 t) (iblk m c 6 t) acc r l
    (t.val % 32 / 4) (by omega) (coord1 t)).trans ?_
  refine congrArg _ (Finset.sum_congr rfl fun f _ => ?_)
  unfold gate share
  rw [blk3 m c t r ⟨t.val % 32 / 4, by omega⟩, blk6 m c t f l]
  rw [funext (fun k => blk0 m c t r k), funext (fun k => blk4 m c t k f), funext (fun k => blk5 m c t k f)]

/-- What point number `n` adds, as a block. -/
def addedAt (c : Dev nD) (n : ℕ) (i : S512x1024.Idx) : EReal := if h : n < cfg0.N then added m c ⟨n, h⟩ (i 0) (i 1) else 0

theorem eta2 (i : S512x1024.Idx) : ∃ (r : Fin 512) (l : Fin 1024), i = ix2 r l :=
  ⟨i 0, i 1, by funext a; match a with | ⟨0, _⟩ => rfl | ⟨1, _⟩ => rfl⟩

theorem step_at (c : Dev nD) (t : Fin cfg0.N) (acc : Vec Ideal S512x1024 .f32) (i : S512x1024.Idx) :
    (k0_pay1 acc (k0_pay4 (grid0.coords t) (iblk m c 0 t) (iblk m c 4 t) (iblk m c 5 t) (iblk m c 3 t)) (iblk m c 6 t) i : EReal)
      = acc i + addedAt m c t.val i := by
  obtain ⟨r, l, rfl⟩ := eta2 i
  rw [addedAt, dif_pos t.isLt]
  exact step_apply m c t acc r l

theorem zero_at (i : S512x1024.Idx) : (k0_pay3 (F := Ideal) i : EReal) = 0 := by
  obtain ⟨r, l, rfl⟩ := eta2 i
  exact zero_apply r l

/-- The accumulator after the last point of row block `q`. -/
theorem acc_last (c : Dev nD) (t : Fin cfg0.N) (h1 : t.val % 32 = 31) (i : S512x1024.Idx) :
    ((outsAt0 m c t.val t.isLt).2 i : EReal) = ∑ s ∈ Finset.range 32, addedAt m c (32 * (t.val / 32) + s) i := by
  have hN' := hN
  rw [soutsAt0_0_eq m c t]
  have key := Pipeline.accAt_add_apply (N := cfg0.N) (ι := S512x1024.Idx) (β := EReal)
    (fun n h => scAt0_0 m c n h (VS0_0.read (Elt Ideal) VS0_0.junk)) (scAt0_0 m c) (fun _ => 0) (addedAt m c)
    (32 * (t.val / 32)) 31 ?_ ?_ (t.val % 32) (by omega) (by have := t.isLt; omega) i
  · refine key.trans ?_
    rw [zero_add, h1]
  · intro h i
    have h0 : (⟨32 * (t.val / 32), h⟩ : Fin cfg0.N).val % 32 = 0 := Nat.mul_mod_right _ _
    have h1' : ¬ (⟨32 * (t.val / 32), h⟩ : Fin cfg0.N).val % 32 = 31 := by omega
    unfold scAt0_0
    rw [dif_pos h0, dif_neg h1', sout_A]
    refine (step_at m c ⟨_, h⟩ _ i).trans ?_
    rw [zero_at]
  · intro n h acc i hb he
    have h0 : ¬ n % 32 = 0 := by omega
    unfold scAt0_0
    rw [dif_neg h0]
    by_cases h1 : n % 32 = 31
    · rw [dif_pos h1, sout_C]
      exact step_at m c ⟨n, h⟩ acc i
    · rw [dif_neg h1, sout_B]
      exact step_at m c ⟨n, h⟩ acc i

end Cert.KernelIdeal.Value

end
-- ==== Proof.MoeValue.lean ====
/-
  The expert kernel's result at an element: the residual plus the modulation times the gated sum of the experts.
-/
module

public import proofs.«01_k».proof.Proof.MoeFold

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The last point of a row block writes the residual plus the modulation times the finished accumulator. -/
theorem out_last (c : Dev nD) (t : Fin cfg0.N) (h1 : t.val % 32 = 31) :
    (outsAt0 m c t.val t.isLt).1 = k0_pay2 (iblk m c 1 t) (iblk m c 2 t) (outsAt0 m c t.val t.isLt).2 := by
  have h0 : ¬ t.val % 32 = 0 := by omega
  rw [outsAt0_C m c t h0 h1]
  dsimp only
  rw [out_C, sout_C]

/-- The thirty-two points of row block `q` add the eight gated experts. -/
theorem added_total (c : Dev nD) (q : Fin 32) (r : Fin 512) (l : Fin 1024) (R : Fin 16384) (hR : R.val = 512 * q.val + r.val)
    (hg : ∀ e, 0 ≤ gate m c R e ∧ gate m c R e ≠ ⊤) :
    (∑ s ∈ Finset.range 32, addedAt m c (32 * q.val + s) (ix2 r l)) = ∑ e : Fin 8, gate m c R e * ∑ f : Fin 3584, share m c R e l f := by
  have hN' := hN
  rw [Finset.sum_range, Fin.sum_univ_tiles 8 4 rfl]
  refine Finset.sum_congr rfl fun e _ => ?_
  rw [Ffn.mul_sum _ (hg e).1 (hg e).2, Fin.sum_univ_tiles 4 896 rfl]
  refine Finset.sum_congr rfl fun j _ => ?_
  have hlt : 32 * q.val + (e.val * 4 + j.val) < cfg0.N := by omega
  show addedAt m c (32 * q.val + (e.val * 4 + j.val)) (ix2 r l) = _
  rw [addedAt, dif_pos hlt]
  show added m c ⟨_, hlt⟩ r l = _
  unfold added
  have e1 : rowOf ⟨32 * q.val + (e.val * 4 + j.val), hlt⟩ r = R := Fin.ext (by rw [hR]; show 512 * ((32 * q.val + (e.val * 4 + j.val)) / 32) + r.val = _; omega)
  have e2 : exOf ⟨32 * q.val + (e.val * 4 + j.val), hlt⟩ = e := Fin.ext (by show (32 * q.val + (e.val * 4 + j.val)) % 32 / 4 = e.val; omega)
  refine Finset.sum_congr rfl fun f _ => ?_
  have e3 : colOf ⟨32 * q.val + (e.val * 4 + j.val), hlt⟩ f = ⟨j.val * 896 + f.val, by omega⟩ :=
    Fin.ext (by show (32 * q.val + (e.val * 4 + j.val)) % 4 * 896 + f.val = _; show _ = j.val * 896 + f.val; omega)
  rw [e1, e2, e3]

/-- The kernel's result at row `R`, column `l`. -/
theorem result_apply (c : Dev nD) (R : Fin 16384) (l : Fin 1024) (hg : ∀ e, 0 ≤ gate m c R e ∧ gate m c R e ≠ ⊤) :
    (G7 m c (ix2 R l) : EReal) = (fun (a b s : EReal) => a + b * s) (m ((c : Thread nD τ).loc main_arg1) (ix2 R l))
      (m ((c : Thread nD τ).loc main_arg2) (ix3 (⟨R.val / 8192, by omega⟩ : Fin 2) 0 (⟨5120 + l.val, by omega⟩ : Fin 6144)))
      (∑ e : Fin 8, gate m c R e * ∑ f : Fin 3584, share m c R e l f) := by
  have hN' := hN
  have hp : pt7Of (ix2 R l) = 32 * (R.val / 512) + 31 := by
    show 32 * (1 * (R.val / 512 - 0) + 1 * (l.val / 1024 - 0)) + 31 = _
    omega
  have hlt : 32 * (R.val / 512) + 31 < cfg0.N := by omega
  have hloc : loc7Of (ix2 R l) = ix2 (⟨R.val % 512, by omega⟩ : Fin 512) l := by
    funext a; apply Fin.ext
    match a with
    | ⟨0, _⟩ => rfl
    | ⟨1, _⟩ => show l.val % 1024 = l.val; omega
  unfold G7
  rw [dif_pos (by rw [hp]; exact hlt), hloc, fold0_congr m c _ _ (32 * (R.val / 512) + 31) (by omega) hp, ← outsAt0_sweep m c _ hlt]
  have h31 : (32 * (R.val / 512) + 31) % 32 = 31 := by omega
  rw [out_last m c ⟨_, hlt⟩ h31]
  refine (final_apply _ _ _ _ _).trans ?_
  have hd : (32 * (R.val / 512) + 31) / 32 = R.val / 512 := by omega
  rw [acc_last m c ⟨_, hlt⟩ h31, blk1 m c ⟨_, hlt⟩, blk2 m c ⟨_, hlt⟩]
  show _ + _ * (∑ s ∈ Finset.range 32, addedAt m c (32 * ((32 * (R.val / 512) + 31) / 32) + s) _) = _
  rw [hd, added_total m c ⟨R.val / 512, by omega⟩ _ l R (by show R.val = 512 * (R.val / 512) + R.val % 512; omega) hg]
  have e1 : rowOf ⟨32 * (R.val / 512) + 31, hlt⟩ ⟨R.val % 512, by omega⟩ = R :=
    Fin.ext (by show 512 * ((32 * (R.val / 512) + 31) / 32) + R.val % 512 = R.val; omega)
  have e2 : batOf ⟨32 * (R.val / 512) + 31, hlt⟩ = ⟨R.val / 8192, by omega⟩ :=
    Fin.ext (by show (32 * (R.val / 512) + 31) / 32 / 16 = R.val / 8192; omega)
  rw [e1, e2]

end Cert.KernelIdeal.Value

end
-- ==== Proof.MoeRef.lean ====
/-
  The reference's mixture of experts read at an element: each expert's product, their sum, the result.
-/
module

public import proofs.«01_k».proof.Proof.Gen.ReferenceIdeal.Read
public import proofs.«01_k».proof.Proof.FfnSums
public import Idealize.ShloMosaic.Lib.Pointwise

@[expose] public section

set_option maxRecDepth 16384

noncomputable section

namespace Cert.ReferenceIdeal.Value

open Cert.ReferenceIdeal Cert.ReferenceIdeal.Read Idealize.ShloMosaic

/-- Expert `e`'s gated product for row `R`, column `l`. -/
def expert (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (R : Fin 16384) (l : Fin 1024) (e : Fin 8) : EReal :=
  x6 (ix2 R (⟨e.val, by omega⟩ : Fin 128)) * ∑ f : Fin 3584, Ffn.term (fun k : Fin 1024 => x0 (ix2 R k)) (fun k => x3 (ix3 e k f))
    (fun k => x4 (ix3 e k f)) (x5 (ix3 e f l))

/-- Row `p` of batch `b`. -/
abbrev rowOf (b : Fin 2) (p : Fin 8192) : Fin 16384 := ⟨b.val * 8192 + p.val, by omega⟩

theorem expert_0 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v24 (F := Ideal) x0 x3 x4 x5 x6 (ix3 b p l) : EReal) = expert x0 x3 x4 x5 x6 (rowOf b p) l 0 := by
  pointwise [val_main_v24, val_main_v23, val_main_v22, val_main_v21, val_main_v20, val_main_v19, val_main_v18, val_main_v17, val_main_v16, val_main_v15, val_main_v14, val_main_v13, val_main_v12, val_main_v11, val_main_v10, val_main_v1, val_main_v0, val_main_call0_v5, val_main_call0_v4, val_main_call0_v3, val_main_call0_v2, val_main_call0_v1, val_main_call0_v0, val_main_call0_cst, val_main_call0_cst_0]
  rfl

theorem expert_1 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v40 (F := Ideal) x0 x3 x4 x5 x6 (ix3 b p l) : EReal) = expert x0 x3 x4 x5 x6 (rowOf b p) l 1 := by
  pointwise [val_main_v40, val_main_v39, val_main_v38, val_main_v37, val_main_v36, val_main_v35, val_main_v34, val_main_v33, val_main_v32, val_main_v31, val_main_v30, val_main_v29, val_main_v28, val_main_v27, val_main_v26, val_main_v1, val_main_v0, val_main_call1_v5, val_main_call1_v4, val_main_call1_v3, val_main_call1_v2, val_main_call1_v1, val_main_call1_v0, val_main_call1_cst, val_main_call1_cst_0]
  rfl

theorem expert_2 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v56 (F := Ideal) x0 x3 x4 x5 x6 (ix3 b p l) : EReal) = expert x0 x3 x4 x5 x6 (rowOf b p) l 2 := by
  pointwise [val_main_v56, val_main_v55, val_main_v54, val_main_v53, val_main_v52, val_main_v51, val_main_v50, val_main_v49, val_main_v48, val_main_v47, val_main_v46, val_main_v45, val_main_v44, val_main_v43, val_main_v42, val_main_v1, val_main_v0, val_main_call2_v5, val_main_call2_v4, val_main_call2_v3, val_main_call2_v2, val_main_call2_v1, val_main_call2_v0, val_main_call2_cst, val_main_call2_cst_0]
  rfl

theorem expert_3 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v72 (F := Ideal) x0 x3 x4 x5 x6 (ix3 b p l) : EReal) = expert x0 x3 x4 x5 x6 (rowOf b p) l 3 := by
  pointwise [val_main_v72, val_main_v71, val_main_v70, val_main_v69, val_main_v68, val_main_v67, val_main_v66, val_main_v65, val_main_v64, val_main_v63, val_main_v62, val_main_v61, val_main_v60, val_main_v59, val_main_v58, val_main_v1, val_main_v0, val_main_call3_v5, val_main_call3_v4, val_main_call3_v3, val_main_call3_v2, val_main_call3_v1, val_main_call3_v0, val_main_call3_cst, val_main_call3_cst_0]
  rfl

theorem expert_4 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v88 (F := Ideal) x0 x3 x4 x5 x6 (ix3 b p l) : EReal) = expert x0 x3 x4 x5 x6 (rowOf b p) l 4 := by
  pointwise [val_main_v88, val_main_v87, val_main_v86, val_main_v85, val_main_v84, val_main_v83, val_main_v82, val_main_v81, val_main_v80, val_main_v79, val_main_v78, val_main_v77, val_main_v76, val_main_v75, val_main_v74, val_main_v1, val_main_v0, val_main_call4_v5, val_main_call4_v4, val_main_call4_v3, val_main_call4_v2, val_main_call4_v1, val_main_call4_v0, val_main_call4_cst, val_main_call4_cst_0]
  rfl

theorem expert_5 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v104 (F := Ideal) x0 x3 x4 x5 x6 (ix3 b p l) : EReal) = expert x0 x3 x4 x5 x6 (rowOf b p) l 5 := by
  pointwise [val_main_v104, val_main_v103, val_main_v102, val_main_v101, val_main_v100, val_main_v99, val_main_v98, val_main_v97, val_main_v96, val_main_v95, val_main_v94, val_main_v93, val_main_v92, val_main_v91, val_main_v90, val_main_v1, val_main_v0, val_main_call5_v5, val_main_call5_v4, val_main_call5_v3, val_main_call5_v2, val_main_call5_v1, val_main_call5_v0, val_main_call5_cst, val_main_call5_cst_0]
  rfl

theorem expert_6 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v120 (F := Ideal) x0 x3 x4 x5 x6 (ix3 b p l) : EReal) = expert x0 x3 x4 x5 x6 (rowOf b p) l 6 := by
  pointwise [val_main_v120, val_main_v119, val_main_v118, val_main_v117, val_main_v116, val_main_v115, val_main_v114, val_main_v113, val_main_v112, val_main_v111, val_main_v110, val_main_v109, val_main_v108, val_main_v107, val_main_v106, val_main_v1, val_main_v0, val_main_call6_v5, val_main_call6_v4, val_main_call6_v3, val_main_call6_v2, val_main_call6_v1, val_main_call6_v0, val_main_call6_cst, val_main_call6_cst_0]
  rfl

theorem expert_7 (x0 : (⟨S16384x1024, .bf16⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (b : Fin 2) (p : Fin 8192) (l : Fin 1024) :
    (val_main_v136 (F := Ideal) x0 x3 x4 x5 x6 (ix3 b p l) : EReal) = expert x0 x3 x4 x5 x6 (rowOf b p) l 7 := by
  pointwise [val_main_v136, val_main_v135, val_main_v134, val_main_v133, val_main_v132, val_main_v131, val_main_v130, val_main_v129, val_main_v128, val_main_v127, val_main_v126, val_main_v125, val_main_v124, val_main_v123, val_main_v122, val_main_v1, val_main_v0, val_main_call7_v5, val_main_call7_v4, val_main_call7_v3, val_main_call7_v2, val_main_call7_v1, val_main_call7_v0, val_main_call7_cst, val_main_call7_cst_0]
  rfl

/-- The reference's result at an element. -/
theorem result_apply (x0 : (⟨S16384x1024, .bf16⟩ : BufTy).Contents (Elt Ideal)) (x1 : (⟨S16384x1024, .f32⟩ : BufTy).Contents (Elt Ideal)) (x2 : (⟨S2x1x6144, .f32⟩ : BufTy).Contents (Elt Ideal)) (x3 x4 : (⟨S8x1024x3584, .f32⟩ : BufTy).Contents (Elt Ideal)) (x5 : (⟨S8x3584x1024, .f32⟩ : BufTy).Contents (Elt Ideal)) (x6 : (⟨S16384x128, .f32⟩ : BufTy).Contents (Elt Ideal)) (R : Fin 16384) (l : Fin 1024) :
    (val_main_v141 (F := Ideal) x0 x1 x2 x3 x4 x5 x6 (ix2 R l) : EReal) = (fun (a b s : EReal) => a + b * s) (x1 (ix2 R l))
      (x2 (ix3 (⟨R.val / 8192, by omega⟩ : Fin 2) 0 (⟨5120 + l.val, by omega⟩ : Fin 6144)))
      (∑ e : Fin 8, expert x0 x3 x4 x5 x6 R l e) := by
  have hR : rowOf ⟨R.val / 8192, by omega⟩ ⟨R.val % 8192, by omega⟩ = R := Fin.ext (by show R.val / 8192 * 8192 + R.val % 8192 = R.val; omega)
  pointwise [val_main_v141, val_main_v140, val_main_v139, val_main_v138, val_main_v137, val_main_v121, val_main_v105, val_main_v89, val_main_v73, val_main_v57, val_main_v41, val_main_v25, val_main_v9, val_main_cst, val_main_v8, val_main_v2]
  rw [Fin.sum_univ_eight]
  rw [expert_0, expert_1, expert_2, expert_3, expert_4, expert_5, expert_6, expert_7, hR]

end Cert.ReferenceIdeal.Value

end
-- ==== Proof.Moe.lean ====
/-
  The mixture of experts: the kernel's result is the reference's, given that every gate is nonnegative and finite.
-/
module

public import proofs.«01_k».proof.Defs
public import proofs.«01_k».proof.Proof.Gen.Pre_routed
public import proofs.«01_k».proof.Proof.MoeValue
public import proofs.«01_k».proof.Proof.MoeRef

@[expose] public section

set_option maxRecDepth 16384

noncomputable section

namespace Cert.Proof

open Idealize.ShloMosaic Idealize.ShloMosaic.TcCoe Idealize.SL.Sem

/-- The pattern of the f32 infinity is the extended real infinity. -/
theorem ofBits_inf_f32 : Ideal.ofBits .f32 0x7F800000#32 = ⊤ := by
  simp [Ideal.ofBits, Ideal.ieee]

/-- The precondition at an element: the gate is nonnegative and finite. -/
theorem routed_apply (x0 : FVec Ideal Pre_routed.S16384x1024 .bf16) (x1 : FVec Ideal Pre_routed.S16384x1024 .f32) (x2 : FVec Ideal Pre_routed.S2x1x6144 .f32)
    (x3 x4 : FVec Ideal Pre_routed.S8x1024x3584 .f32) (x5 : FVec Ideal Pre_routed.S8x3584x1024 .f32) (x6 : FVec Ideal Pre_routed.S16384x128 .f32)
    (h : Pre_routed.fn (F := Ideal) x0 x1 x2 x3 x4 x5 x6 = fun _ => 1#1) (R : Fin 16384) (e : Fin 128) :
    (0 : EReal) ≤ x6 (ix2 R e) ∧ (x6 (ix2 R e) : EReal) ≠ ⊤ := by
  have h1 := congrFun h (ix2 R e)
  have h2 : IntOp.andi (Ideal.cmp .oge (x6 (ix2 R e)) (Ideal.ofBits .f32 0x00000000#32)) (Ideal.cmp .olt (x6 (ix2 R e)) (Ideal.ofBits .f32 0x7F800000#32)) = 1#1 := h1
  rw [ofBits_inf_f32, Ideal.ofBits_zero_f32] at h2
  unfold Ideal.cmp at h2
  by_cases a : (0 : EReal) ≤ x6 (ix2 R e)
  · by_cases b : (x6 (ix2 R e) : EReal) < ⊤
    · exact ⟨a, ne_of_lt b⟩
    · simp [IntOp.andi, a, b] at h2
  · simp [IntOp.andi, a] at h2

/-- The kernel's array and the reference's term agree. -/
theorem moe_eq (m : (ℓ : Loc KernelIdeal.nD KernelIdeal.τ KernelIdeal.sig) → Buf (Elt Ideal) ℓ) (c : Dev KernelIdeal.nD)
    (hg : ∀ (R : Fin 16384) (e : Fin 8), 0 ≤ KernelIdeal.Value.gate m c R e ∧ KernelIdeal.Value.gate m c R e ≠ ⊤) :
    ReferenceIdeal.Read.val_main_v141 (F := Ideal) (m ((c : Thread KernelIdeal.nD KernelIdeal.τ).loc KernelIdeal.main_arg0)) (m ((c : Thread KernelIdeal.nD KernelIdeal.τ).loc KernelIdeal.main_arg1))
      (m ((c : Thread KernelIdeal.nD KernelIdeal.τ).loc KernelIdeal.main_arg2)) (m ((c : Thread KernelIdeal.nD KernelIdeal.τ).loc KernelIdeal.main_arg3))
      (m ((c : Thread KernelIdeal.nD KernelIdeal.τ).loc KernelIdeal.main_arg4)) (m ((c : Thread KernelIdeal.nD KernelIdeal.τ).loc KernelIdeal.main_arg5))
      (m ((c : Thread KernelIdeal.nD KernelIdeal.τ).loc KernelIdeal.main_arg6)) = KernelIdeal.Value.G7 m c := by
  funext i
  obtain ⟨R, l, rfl⟩ : ∃ (R : Fin 16384) (l : Fin 1024), i = ix2 R l :=
    ⟨i 0, i 1, by funext a; match a with | ⟨0, _⟩ => rfl | ⟨1, _⟩ => rfl⟩
  exact (ReferenceIdeal.Value.result_apply _ _ _ _ _ _ _ R l).trans (KernelIdeal.Value.result_apply m c R l (hg R)).symm

theorem moe : Cert.algebraic_KernelIdeal_ReferenceIdeal_pre_routed := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ((ReferenceIdeal.Read.val_main_v141_eq _).trans ?_)
  refine Eq.trans ?_ (moe_eq m c fun R e => routed_apply _ _ _ _ _ _ _ (hpre c) R _)
  obtain ⟨a0, a1, a2, a3, a4, a5, a6⟩ := hagree c
  rw [← a0, ← a1, ← a2, ← a3, ← a4, ← a5, ← a6]

end Cert.Proof

end
-- ==== Proof.FfnCases.lean ====
/-
  The named terms of the dense feed-forward kernel's two kinds of grid point, read as values: the first point of a row
  block starts the accumulator from zero, both points add their hidden tile, the second writes the block.
-/
module

public import proofs.«01_k».proof.Proof.Gen.Kernel2Ideal.Value
public import Idealize.ShloMosaic.Lib.Tactic

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a row block leaves its tile added to the zero block. -/
theorem sout_A (c : Dev nD) (i : grid0.Coords) (arg3 : Memref sig .tc .vmem S512x1024 .bf16) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i) (x0 : Vec F S512x1024 .bf16) (x1 : Vec F S512x1024 .f32) (x2 : Vec F S1x1x1024 .f32) (x3 : Vec F S1x1024x1408 .bf16) (x4 : Vec F S1x1024x1408 .bf16) (x5 : Vec F S1x1408x1024 .bf16) :
    sout0_A_0 c i arg3 harg3 arg4 harg4 arg5 harg5 arg6 harg6 arg7 harg7 arg8 harg8 arg9 harg9 arg10 harg10 hc0 hc1 x0 x1 x2 x3 x4 x5
      = k0_pay3 x0 x3 x4 k0_pay2 x5 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1x1024x1408) hz3, View.ld_unit_zero (S := S1x1408x1024) hz3, View.ld_unit_zero (S := S1x1x1024) hz3]

/-- The second point leaves its tile added to what it found. -/
theorem sout_B (c : Dev nD) (i : grid0.Coords) (arg3 : Memref sig .tc .vmem S512x1024 .bf16) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i) (x0 : Vec F S512x1024 .bf16) (x1 : Vec F S512x1024 .f32) (x2 : Vec F S1x1x1024 .f32) (x3 : Vec F S1x1024x1408 .bf16) (x4 : Vec F S1x1024x1408 .bf16) (x5 : Vec F S1x1408x1024 .bf16) (xs0 : Vec F S512x1024 .f32) :
    sout0_B_0 c i arg3 harg3 arg4 harg4 arg5 harg5 arg6 harg6 arg7 harg7 arg8 harg8 arg9 harg9 arg10 harg10 hc0 hc1 x0 x1 x2 x3 x4 x5 xs0
      = k0_pay3 x0 x3 x4 xs0 x5 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero (S := S512x1024) hz2]
  simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1x1024x1408) hz3, View.ld_unit_zero (S := S1x1408x1024) hz3, View.ld_unit_zero (S := S1x1x1024) hz3]

/-- The second point writes the residual plus the modulated total. -/
theorem out_B (c : Dev nD) (i : grid0.Coords) (arg3 : Memref sig .tc .vmem S512x1024 .bf16) (harg3 : arg3.IsWhole) (arg4 : Memref sig .tc .vmem S512x1024 .f32) (harg4 : arg4.IsWhole) (arg5 : Memref sig .tc .vmem S1x1x1024 .f32) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i) (x0 : Vec F S512x1024 .bf16) (x1 : Vec F S512x1024 .f32) (x2 : Vec F S1x1x1024 .f32) (x3 : Vec F S1x1024x1408 .bf16) (x4 : Vec F S1x1024x1408 .bf16) (x5 : Vec F S1x1408x1024 .bf16) (xs0 : Vec F S512x1024 .f32) :
    out0_B_6 c i arg3 harg3 arg4 harg4 arg5 harg5 arg6 harg6 arg7 harg7 arg8 harg8 arg9 harg9 arg10 harg10 hc0 hc1 x0 x1 x2 x3 x4 x5 xs0
      = k0_pay1 x1 x2 (k0_pay3 x0 x3 x4 xs0 x5) := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero (S := S512x1024) hz2, View.readCov_unit_zero (S := S512x1024) _ hz2]
  simp only [View.readAt_eq_ld, harg3.read_unread, harg4.read_unread, harg5.read_unread, harg6.read_unread, harg7.read_unread, harg8.read_unread, harg9.read_unread, harg10.read_unread, View.ld_unit_zero (S := S512x1024) hz2, View.ld_unit_zero (S := S1x1024x1408) hz3, View.ld_unit_zero (S := S1x1408x1024) hz3, View.ld_unit_zero (S := S1x1x1024) hz3]

end Cert.Kernel2Ideal.Value

end
-- ==== Proof.FfnBlocks.lean ====
/-
  The blocks the dense feed-forward kernel's grid points read, as entries of the arguments: point `t` of the 64 works
  on row block `t / 2`, hidden tile `t % 2`.
-/
module

public import proofs.«01_k».proof.Proof.FfnCases
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

theorem hN : cfg0.N = 64 := N_0

theorem idx0 : ∀ t : Fin cfg0.N, win0_0.index t (0 : Fin 2) = t.val / 2 ∧ win0_0.index t (1 : Fin 2) = 0 := by decide +kernel
theorem idx1 : ∀ t : Fin cfg0.N, win0_1.index t (0 : Fin 2) = t.val / 2 ∧ win0_1.index t (1 : Fin 2) = 0 := by decide +kernel
theorem idx2 : ∀ t : Fin cfg0.N, win0_2.index t (0 : Fin 3) = t.val / 2 / 16 ∧ win0_2.index t (1 : Fin 3) = 0 ∧ win0_2.index t (2 : Fin 3) = 5 := by decide +kernel
theorem idx3 : ∀ t : Fin cfg0.N, win0_3.index t (0 : Fin 3) = 0 ∧ win0_3.index t (1 : Fin 3) = 0 ∧ win0_3.index t (2 : Fin 3) = t.val % 2 := by decide +kernel
theorem idx4 : ∀ t : Fin cfg0.N, win0_4.index t (0 : Fin 3) = 0 ∧ win0_4.index t (1 : Fin 3) = 0 ∧ win0_4.index t (2 : Fin 3) = t.val % 2 := by decide +kernel
theorem idx5 : ∀ t : Fin cfg0.N, win0_5.index t (0 : Fin 3) = 0 ∧ win0_5.index t (1 : Fin 3) = t.val % 2 ∧ win0_5.index t (2 : Fin 3) = 0 := by decide +kernel

variable (m : (ℓ : Loc nD τ sig) → Buf (Elt Ideal) ℓ)

theorem V_w1 (c : Dev nD) : V m c main_v1 = broadcastInDim S1x1024x2816 ![1, 2] bcast_S1024x2816_S1x1024x2816_1_2
    (m ((c : Thread nD τ).loc main_arg3)) := by
  show StableHlo.after hostOps0 (fun b => m (c, b)) main_v1 = _
  after_results
  rfl
theorem V_w3 (c : Dev nD) : V m c main_v3 = broadcastInDim S1x1024x2816 ![1, 2] bcast_S1024x2816_S1x1024x2816_1_2
    (m ((c : Thread nD τ).loc main_arg4)) := by
  show StableHlo.after hostOps0 (fun b => m (c, b)) main_v3 = _
  after_results
  rfl
theorem V_w2 (c : Dev nD) : V m c main_v5 = broadcastInDim S1x2816x1024 ![1, 2] bcast_S2816x1024_S1x2816x1024_1_2
    (m ((c : Thread nD τ).loc main_arg5)) := by
  show StableHlo.after hostOps0 (fun b => m (c, b)) main_v5 = _
  after_results
  rfl

/-- Row `r` of row block `t / 2`. -/
abbrev rowOf (t : Fin cfg0.N) (r : Fin 512) : Fin 16384 := ⟨512 * (t.val / 2) + r.val, by have := t.isLt; have := hN; omega⟩
/-- Hidden column `f` of the tile of point `t`. -/
abbrev colOf (t : Fin cfg0.N) (f : Fin 1408) : Fin 2816 := ⟨t.val % 2 * 1408 + f.val, by omega⟩
/-- The batch of point `t`. -/
abbrev batOf (t : Fin cfg0.N) : Fin 2 := ⟨t.val / 2 / 16, by have := t.isLt; have := hN; omega⟩

theorem blk0 (c : Dev nD) (t : Fin cfg0.N) (r : Fin 512) (k : Fin 1024) :
    (iblk m c 0 t : Vec Ideal S512x1024 .bf16) (ix2 r k) = m ((c : Thread nD τ).loc main_arg0) (ix2 (rowOf t r) k) := by
  rw [← V_main_arg0 m c]
  unfold iblk
  rw [View.read_apply]
  show V m c main_arg0 _ = V m c main_arg0 _
  congr 1; funext a; apply Fin.ext
  obtain ⟨e0, e1⟩ := idx0 t
  match a with
  | ⟨0, _⟩ => show win0_0.index t (0 : Fin 2) * 512 + 1 * r.val = 512 * (t.val / 2) + r.val; omega
  | ⟨1, _⟩ => show win0_0.index t (1 : Fin 2) * 1024 + 1 * k.val = k.val; omega

theorem blk1 (c : Dev nD) (t : Fin cfg0.N) (r : Fin 512) (k : Fin 1024) :
    (iblk m c 1 t : Vec Ideal S512x1024 .f32) (ix2 r k) = m ((c : Thread nD τ).loc main_arg1) (ix2 (rowOf t r) k) := by
  rw [← V_main_arg1 m c]
  unfold iblk
  rw [View.read_apply]
  show V m c main_arg1 _ = V m c main_arg1 _
  congr 1; funext a; apply Fin.ext
  obtain ⟨e0, e1⟩ := idx1 t
  match a with
  | ⟨0, _⟩ => show win0_1.index t (0 : Fin 2) * 512 + 1 * r.val = 512 * (t.val / 2) + r.val; omega
  | ⟨1, _⟩ => show win0_1.index t (1 : Fin 2) * 1024 + 1 * k.val = k.val; omega

theorem blk2 (c : Dev nD) (t : Fin cfg0.N) (k : Fin 1024) :
    (iblk m c 2 t : Vec Ideal S1x1x1024 .f32) (ix3 0 0 k) = m ((c : Thread nD τ).loc main_arg2) (ix3 (batOf t) 0 ⟨5120 + k.val, by omega⟩) := by
  rw [← V_main_arg2 m c]
  unfold iblk
  rw [View.read_apply]
  show V m c main_arg2 _ = V m c main_arg2 _
  congr 1; funext a; apply Fin.ext
  obtain ⟨e0, e1, e2⟩ := idx2 t
  match a with
  | ⟨0, _⟩ => show win0_2.index t (0 : Fin 3) * 1 + 1 * 0 = t.val / 2 / 16; omega
  | ⟨1, _⟩ => show win0_2.index t (1 : Fin 3) * 1 + 1 * 0 = 0; omega
  | ⟨2, _⟩ => show win0_2.index t (2 : Fin 3) * 1024 + 1 * k.val = 5120 + k.val; omega

theorem blk3 (c : Dev nD) (t : Fin cfg0.N) (k : Fin 1024) (f : Fin 1408) :
    (iblk m c 3 t : Vec Ideal S1x1024x1408 .bf16) (ix3 0 k f) = m ((c : Thread nD τ).loc main_arg3) (ix2 (k) (colOf t f)) := by
  have hv : V m c main_v1 (ix3 0 (k) (colOf t f)) = m ((c : Thread nD τ).loc main_arg3) (ix2 (k) (colOf t f)) := by
    rw [V_w1 m c]
    unfold broadcastInDim
    refine congrArg _ (funext fun a => ?_)
    match a with
    | ⟨0, _⟩ => rfl
    | ⟨1, _⟩ => rfl
  rw [← hv]
  unfold iblk
  rw [View.read_apply]
  show V m c main_v1 _ = V m c main_v1 _
  congr 1; funext a; apply Fin.ext
  obtain ⟨e0, e1, e2⟩ := idx3 t
  match a with
  | ⟨0, _⟩ => show win0_3.index t (0 : Fin 3) * 1 + 1 * 0 = 0; omega
  | ⟨1, _⟩ => show win0_3.index t (1 : Fin 3) * 1024 + 1 * k.val = k.val; omega
  | ⟨2, _⟩ => show win0_3.index t (2 : Fin 3) * 1408 + 1 * f.val = t.val % 2 * 1408 + f.val; omega

theorem blk4 (c : Dev nD) (t : Fin cfg0.N) (k : Fin 1024) (f : Fin 1408) :
    (iblk m c 4 t : Vec Ideal S1x1024x1408 .bf16) (ix3 0 k f) = m ((c : Thread nD τ).loc main_arg4) (ix2 (k) (colOf t f)) := by
  have hv : V m c main_v3 (ix3 0 (k) (colOf t f)) = m ((c : Thread nD τ).loc main_arg4) (ix2 (k) (colOf t f)) := by
    rw [V_w3 m c]
    unfold broadcastInDim
    refine congrArg _ (funext fun a => ?_)
    match a with
    | ⟨0, _⟩ => rfl
    | ⟨1, _⟩ => rfl
  rw [← hv]
  unfold iblk
  rw [View.read_apply]
  show V m c main_v3 _ = V m c main_v3 _
  congr 1; funext a; apply Fin.ext
  obtain ⟨e0, e1, e2⟩ := idx4 t
  match a with
  | ⟨0, _⟩ => show win0_4.index t (0 : Fin 3) * 1 + 1 * 0 = 0; omega
  | ⟨1, _⟩ => show win0_4.index t (1 : Fin 3) * 1024 + 1 * k.val = k.val; omega
  | ⟨2, _⟩ => show win0_4.index t (2 : Fin 3) * 1408 + 1 * f.val = t.val % 2 * 1408 + f.val; omega

theorem blk5 (c : Dev nD) (t : Fin cfg0.N) (k : Fin 1024) (f : Fin 1408) :
    (iblk m c 5 t : Vec Ideal S1x1408x1024 .bf16) (ix3 0 f k) = m ((c : Thread nD τ).loc main_arg5) (ix2 (colOf t f) (k)) := by
  have hv : V m c main_v5 (ix3 0 (colOf t f) (k)) = m ((c : Thread nD τ).loc main_arg5) (ix2 (colOf t f) (k)) := by
    rw [V_w2 m c]
    unfold broadcastInDim
    refine congrArg _ (funext fun a => ?_)
    match a with
    | ⟨0, _⟩ => rfl
    | ⟨1, _⟩ => rfl
  rw [← hv]
  unfold iblk
  rw [View.read_apply]
  show V m c main_v5 _ = V m c main_v5 _
  congr 1; funext a; apply Fin.ext
  obtain ⟨e0, e1, e2⟩ := idx5 t
  match a with
  | ⟨0, _⟩ => show win0_5.index t (0 : Fin 3) * 1 + 1 * 0 = 0; omega
  | ⟨1, _⟩ => show win0_5.index t (1 : Fin 3) * 1408 + 1 * f.val = t.val % 2 * 1408 + f.val; omega
  | ⟨2, _⟩ => show win0_5.index t (2 : Fin 3) * 1024 + 1 * k.val = k.val; omega

end Cert.Kernel2Ideal.Value

end
-- ==== Proof.FfnValue.lean ====
/-
  What the dense feed-forward kernel leaves in its result, as one formula over the arguments.
-/
module

public import proofs.«01_k».proof.Proof.FfnBlocks
public import proofs.«01_k».proof.Proof.FfnSums

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- A tile at an element: the accumulator plus the tile's share. -/
theorem tile_apply (x0 : Vec Ideal S512x1024 .bf16) (x3 x4 : Vec Ideal S1x1024x1408 .bf16) (x5 : Vec Ideal S1x1408x1024 .bf16)
    (acc : Vec Ideal S512x1024 .f32) (r : Fin 512) (l : Fin 1024) :
    (k0_pay3 x0 x3 x4 acc x5 (ix2 r l) : EReal) = acc (ix2 r l) + ∑ f : Fin 1408,
      Ffn.term (fun k : Fin 1024 => x0 (ix2 r k)) (fun k => x3 (ix3 0 k f)) (fun k => x4 (ix3 0 k f)) (x5 (ix3 0 f l)) := by
  pointwise [k0_pay3]
  refine congrArg _ (Finset.sum_congr rfl fun f _ => ?_)
  rw [zero_sub]
  rfl

/-- The zero block. -/
theorem zero_apply (r : Fin 512) (l : Fin 1024) : (k0_pay2 (F := Ideal) (ix2 r l) : EReal) = 0 := by
  pointwise [k0_pay2]

/-- The closing write at an element. -/
theorem final_apply (x1 acc : Vec Ideal S512x1024 .f32) (x2 : Vec Ideal S1x1x1024 .f32) (r : Fin 512) (l : Fin 1024) :
    (k0_pay1 x1 x2 acc (ix2 r l) : EReal) = x1 (ix2 r l) + x2 (ix3 0 0 l) * acc (ix2 r l) := by
  pointwise [k0_pay1]

variable (m : (ℓ : Loc nD τ sig) → Buf (Elt Ideal) ℓ)

/-- The share of hidden column `f` in column `l` of row `R`. -/
def share (c : Dev nD) (R : Fin 16384) (l : Fin 1024) (f : Fin 2816) : EReal :=
  Ffn.term (fun k : Fin 1024 => m ((c : Thread nD τ).loc main_arg0) (ix2 R k)) (fun k => m ((c : Thread nD τ).loc main_arg3) (ix2 k f))
    (fun k => m ((c : Thread nD τ).loc main_arg4) (ix2 k f)) (m ((c : Thread nD τ).loc main_arg5) (ix2 f l))

theorem step_apply (c : Dev nD) (t : Fin cfg0.N) (acc : Vec Ideal S512x1024 .f32) (r : Fin 512) (l : Fin 1024) :
    (k0_pay3 (iblk m c 0 t) (iblk m c 3 t) (iblk m c 4 t) acc (iblk m c 5 t) (ix2 r l) : EReal)
      = acc (ix2 r l) + ∑ f : Fin 1408, share m c (rowOf t r) l (colOf t f) := by
  refine (tile_apply (iblk m c 0 t) (iblk m c 3 t) (iblk m c 4 t) (iblk m c 5 t) acc r l).trans ?_
  refine congrArg _ (Finset.sum_congr rfl fun f _ => ?_)
  unfold share
  rw [blk5 m c t l f]
  rw [funext (fun k => blk0 m c t r k), funext (fun k => blk3 m c t k f), funext (fun k => blk4 m c t k f)]

/-- The second point of a row block writes the residual plus the modulation times both tiles. -/
theorem out_apply (c : Dev nD) (t u : Fin cfg0.N) (h1 : t.val % 2 = 1) (hu : u.val = t.val - 1) (r : Fin 512) (l : Fin 1024) :
    ((outsAt0 m c t.val t.isLt).1 (ix2 r l) : EReal) = (fun (a b s : EReal) => a + b * s) (m ((c : Thread nD τ).loc main_arg1) (ix2 (rowOf t r) l))
      (m ((c : Thread nD τ).loc main_arg2) (ix3 (batOf t) 0 (⟨5120 + l.val, by omega⟩ : Fin 6144)))
      ((∑ f : Fin 1408, share m c (rowOf u r) l (colOf u f)) + ∑ f : Fin 1408, share m c (rowOf t r) l (colOf t f)) := by
  have h0 : ¬ t.val % 2 = 0 := by omega
  have u0 : u.val % 2 = 0 := by omega
  have u1 : ¬ u.val % 2 = 1 := by omega
  have e : (outsAt0 m c (t.val - 1) (Nat.lt_of_le_of_lt (Nat.sub_le _ _) t.isLt)).2 = (outsAt0 m c u.val u.isLt).2 := by
    congr 2; exact hu.symm
  rw [outsAt0_B m c t h0 h1]
  dsimp only
  rw [out_B, e, outsAt0_A m c u u0 u1]
  dsimp only
  rw [sout_A]
  refine (final_apply _ _ _ _ _).trans ?_
  rw [step_apply m c t, step_apply m c u, zero_apply, zero_add, blk1 m c t, blk2 m c t]

/-- The kernel's result at row `R`, column `l`. -/
theorem result_apply (c : Dev nD) (R : Fin 16384) (l : Fin 1024) :
    (G6 m c (ix2 R l) : EReal) = (fun (a b s : EReal) => a + b * s) (m ((c : Thread nD τ).loc main_arg1) (ix2 R l))
      (m ((c : Thread nD τ).loc main_arg2) (ix3 (⟨R.val / 8192, by omega⟩ : Fin 2) 0 (⟨5120 + l.val, by omega⟩ : Fin 6144)))
      (∑ f : Fin 2816, share m c R l f) := by
  have hN' := hN
  have hp : pt6Of (ix2 R l) = 2 * (R.val / 512) + 1 := by
    show 2 * (1 * (R.val / 512 - 0) + 1 * (l.val / 1024 - 0)) + 1 = _
    omega
  have hlt : 2 * (R.val / 512) + 1 < cfg0.N := by omega
  have hlu : 2 * (R.val / 512) < cfg0.N := by omega
  have hloc : loc6Of (ix2 R l) = ix2 (⟨R.val % 512, by omega⟩ : Fin 512) l := by
    funext a; apply Fin.ext
    match a with
    | ⟨0, _⟩ => rfl
    | ⟨1, _⟩ => show l.val % 1024 = l.val; omega
  unfold G6
  rw [dif_pos (by rw [hp]; exact hlt), hloc, fold0_congr m c _ _ (2 * (R.val / 512) + 1) (by omega) hp, ← outsAt0_sweep m c _ hlt]
  have h1 : (2 * (R.val / 512) + 1) % 2 = 1 := by omega
  refine (out_apply m c ⟨_, hlt⟩ ⟨_, hlu⟩ h1 rfl _ l).trans ?_
  have e1 : rowOf ⟨2 * (R.val / 512) + 1, hlt⟩ ⟨R.val % 512, by omega⟩ = R :=
    Fin.ext (by show 512 * ((2 * (R.val / 512) + 1) / 2) + R.val % 512 = R.val; omega)
  have e1' : rowOf ⟨2 * (R.val / 512), hlu⟩ ⟨R.val % 512, by omega⟩ = R :=
    Fin.ext (by show 512 * ((2 * (R.val / 512)) / 2) + R.val % 512 = R.val; omega)
  have e2 : batOf ⟨2 * (R.val / 512) + 1, hlt⟩ = ⟨R.val / 8192, by omega⟩ :=
    Fin.ext (by show (2 * (R.val / 512) + 1) / 2 / 16 = R.val / 8192; omega)
  have e3 : ∀ f, colOf ⟨2 * (R.val / 512), hlu⟩ f = ⟨(0 : Fin 2).val * 1408 + f.val, by have : (0 : Fin 2).val = 0 := rfl; omega⟩ := fun f =>
    Fin.ext (by show (2 * (R.val / 512)) % 2 * 1408 + f.val = 0 * 1408 + f.val; omega)
  have e4 : ∀ f, colOf ⟨2 * (R.val / 512) + 1, hlt⟩ f = ⟨(1 : Fin 2).val * 1408 + f.val, by have : (1 : Fin 2).val = 1 := rfl; omega⟩ := fun f =>
    Fin.ext (by show (2 * (R.val / 512) + 1) % 2 * 1408 + f.val = 1 * 1408 + f.val; omega)
  rw [e1, e1', e2, Fin.sum_univ_tiles 2 1408 rfl, Fin.sum_univ_two]
  simp only [e3, e4]

end Cert.Kernel2Ideal.Value

end
-- ==== Proof.Ffn.lean ====
/-
  The dense feed-forward part: the reference read at an element, and the kernel's result equal to it.
-/
module

public import proofs.«01_k».proof.Defs
public import proofs.«01_k».proof.Proof.FfnValue
public import proofs.«01_k».proof.Proof.Gen.Reference2Ideal.Read

@[expose] public section

set_option maxRecDepth 16384

noncomputable section

namespace Cert.Reference2Ideal.Value

open Cert.Reference2Ideal Cert.Reference2Ideal.Read Idealize.ShloMosaic

/-- The reference's result at an element. -/
theorem result_apply (x0 : (⟨S16384x1024, .bf16⟩ : BufTy).Contents (Elt Ideal)) (x1 : (⟨S16384x1024, .f32⟩ : BufTy).Contents (Elt Ideal)) (x2 : (⟨S2x1x6144, .f32⟩ : BufTy).Contents (Elt Ideal)) (x3 x4 : (⟨S1024x2816, .f32⟩ : BufTy).Contents (Elt Ideal)) (x5 : (⟨S2816x1024, .f32⟩ : BufTy).Contents (Elt Ideal)) (R : Fin 16384) (l : Fin 1024) :
    (val_main_v17 (F := Ideal) x0 x1 x2 x3 x4 x5 (ix2 R l) : EReal) = (fun (a b s : EReal) => a + b * s) (x1 (ix2 R l))
      (x2 (ix3 (⟨R.val / 8192, by omega⟩ : Fin 2) 0 (⟨5120 + l.val, by omega⟩ : Fin 6144)))
      (∑ f : Fin 2816, Ffn.term (fun k : Fin 1024 => x0 (ix2 R k)) (fun k => x3 (ix2 k f)) (fun k => x4 (ix2 k f)) (x5 (ix2 f l))) := by
  pointwise [val_main_v17, val_main_v16, val_main_v15, val_main_v14, val_main_v13, val_main_v12, val_main_v11, val_main_v10, val_main_call0_v5, val_main_call0_v4, val_main_call0_v3, val_main_call0_v2, val_main_call0_v1, val_main_call0_v0, val_main_call0_cst, val_main_call0_cst_0, val_main_v9, val_main_v8, val_main_v2, val_main_v1, val_main_v0]
  rfl

end Cert.Reference2Ideal.Value

namespace Cert.Proof

open Idealize.ShloMosaic Idealize.ShloMosaic.TcCoe Idealize.SL.Sem

theorem ffn_eq (m : (ℓ : Loc Kernel2Ideal.nD Kernel2Ideal.τ Kernel2Ideal.sig) → Buf (Elt Ideal) ℓ) (c : Dev Kernel2Ideal.nD) :
    Reference2Ideal.Read.val_main_v17 (F := Ideal) (m ((c : Thread Kernel2Ideal.nD Kernel2Ideal.τ).loc Kernel2Ideal.main_arg0)) (m ((c : Thread Kernel2Ideal.nD Kernel2Ideal.τ).loc Kernel2Ideal.main_arg1))
      (m ((c : Thread Kernel2Ideal.nD Kernel2Ideal.τ).loc Kernel2Ideal.main_arg2)) (m ((c : Thread Kernel2Ideal.nD Kernel2Ideal.τ).loc Kernel2Ideal.main_arg3))
      (m ((c : Thread Kernel2Ideal.nD Kernel2Ideal.τ).loc Kernel2Ideal.main_arg4)) (m ((c : Thread Kernel2Ideal.nD Kernel2Ideal.τ).loc Kernel2Ideal.main_arg5))
      = Kernel2Ideal.Value.G6 m c := by
  funext i
  obtain ⟨R, l, rfl⟩ : ∃ (R : Fin 16384) (l : Fin 1024), i = ix2 R l :=
    ⟨i 0, i 1, by funext a; match a with | ⟨0, _⟩ => rfl | ⟨1, _⟩ => rfl⟩
  exact (Reference2Ideal.Value.result_apply _ _ _ _ _ _ R l).trans (Kernel2Ideal.Value.result_apply m c R l).symm

theorem ffn : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  refine (h c).1.trans ((Reference2Ideal.Read.val_main_v17_eq _ _ _ _ _ _).trans ?_)
  refine Eq.trans ?_ (ffn_eq m c)
  obtain ⟨a0, a1, a2, a3, a4, a5⟩ := hagree c
  rw [← a0, ← a1, ← a2, ← a3, ← a4, ← a5]

end Cert.Proof

end
-- ==== Proof.InBlocks.lean ====
/-
  The input projection's kernel: its blocks as entries of the arguments, its tile read at an element.
-/
module

public import proofs.«01_k».proof.Proof.Gen.Kernel3Ideal.Value
public import Idealize.ShloMosaic.Lib.Pointwise

@[expose] public section

set_option maxRecDepth 16384

noncomputable section

namespace Cert.In

open Idealize.ShloMosaic

/-- The normalized and modulated row at column `k`: row `x`, gain `g`, scale `sc`, shift `sh`. -/
def row (x g sc sh : Fin 1024 → EReal) (k : Fin 1024) : EReal :=
  x k * Ideal.rsqrt (Ideal.div (∑ j, x j * x j) (Ideal.ofBits .f32 0x44800000#32) + Ideal.ofBits .f32 0x358637BD#32) * g k * (1 + sc k) + sh k

/-- One projected value: the row against a column `w` of the weights. -/
def proj (x g sc sh w : Fin 1024 → EReal) : EReal := ∑ k, row x g sc sh k * w k

end Cert.In

namespace Cert.Kernel3Ideal.Value

open Cert.Kernel3Ideal Cert.Kernel3Ideal.Gen Idealize.ShloMosaic Idealize.ShloMosaic.TcCoe Idealize.SL.Sem

theorem hN : cfg0.N = 64 := N_0

/-- The tile of a grid point at an element. -/
theorem tile_apply (x0 : Vec Ideal S256x1024 .f32) (g : Vec Ideal S1x1024 .f32) (sc sh : Vec Ideal S1x1x1024 .f32)
    (w : Vec Ideal S1024x3456 .bf16) (r : Fin 256) (j : Fin 3456) :
    (k0_pay1 x0 g sc sh w (ix2 r j) : EReal) = In.proj (fun k : Fin 1024 => x0 (ix2 r k)) (fun k => g (ix2 0 k)) (fun k => sc (ix3 0 0 k))
      (fun k => sh (ix3 0 0 k)) (fun k => w (ix2 k j)) := by
  pointwise [k0_pay1]
  rfl

theorem idx0 : ∀ t : Fin cfg0.N, win0_0.index t (0 : Fin 2) = t.val ∧ win0_0.index t (1 : Fin 2) = 0 := by decide +kernel
theorem idx1 : ∀ t : Fin cfg0.N, win0_1.index t (0 : Fin 3) = t.val / 32 ∧ win0_1.index t (1 : Fin 3) = 0 ∧ win0_1.index t (2 : Fin 3) = 0 := by decide +kernel
theorem idx2 : ∀ t : Fin cfg0.N, win0_2.index t (0 : Fin 3) = t.val / 32 ∧ win0_2.index t (1 : Fin 3) = 0 ∧ win0_2.index t (2 : Fin 3) = 1 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = t.val ∧ win0_5.index t (1 : Fin 2) = 0 := by decide +kernel
theorem idx6 : ∀ t : Fin cfg0.N, win0_6.index t (0 : Fin 2) = t.val ∧ win0_6.index t (1 : Fin 2) = 0 := by decide +kernel
theorem idx7 : ∀ t : Fin cfg0.N, win0_7.index t (0 : Fin 2) = t.val ∧ win0_7.index t (1 : Fin 2) = 0 := by decide +kernel

variable (m : (ℓ : Loc nD τ sig) → Buf (Elt Ideal) ℓ)

/-- Row `r` of row block `t`. -/
abbrev rowOf (t : Fin cfg0.N) (r : Fin 256) : Fin 16384 := ⟨256 * t.val + r.val, by have := t.isLt; have := hN; omega⟩
/-- The batch of point `t`. -/
abbrev batOf (t : Fin cfg0.N) : Fin 2 := ⟨t.val / 32, by have := t.isLt; have := hN; omega⟩

theorem blk0 (c : Dev nD) (t : Fin cfg0.N) (r : Fin 256) (k : Fin 1024) :
    (iblk m c 0 t : Vec Ideal S256x1024 .f32) (ix2 r k) = m ((c : Thread nD τ).loc main_arg0) (ix2 (rowOf t r) k) := by
  rw [← V_main_arg0 m c]
  unfold iblk
  rw [View.read_apply]
  show V m c main_arg0 _ = V m c main_arg0 _
  congr 1; funext a; apply Fin.ext
  obtain ⟨e0, e1⟩ := idx0 t
  match a with
  | ⟨0, _⟩ => show win0_0.index t (0 : Fin 2) * 256 + 1 * r.val = 256 * t.val + r.val; omega
  | ⟨1, _⟩ => show win0_0.index t (1 : Fin 2) * 1024 + 1 * k.val = k.val; omega

theorem blk1 (c : Dev nD) (t : Fin cfg0.N) (k : Fin 1024) :
    (iblk m c 1 t : Vec Ideal S1x1x1024 .f32) (ix3 0 0 k) = m ((c : Thread nD τ).loc main_arg1) (ix3 (batOf t) 0 ⟨k.val, by omega⟩) := by
  rw [← V_main_arg1 m c]
  unfold iblk
  rw [View.read_apply]
  show V m c main_arg1 _ = V m c main_arg1 _
  congr 1; funext a; apply Fin.ext
  obtain ⟨e0, e1, e2⟩ := idx1 t
  match a with
  | ⟨0, _⟩ => show win0_1.index t (0 : Fin 3) * 1 + 1 * 0 = t.val / 32; omega
  | ⟨1, _⟩ => show win0_1.index t (1 : Fin 3) * 1 + 1 * 0 = 0; omega
  | ⟨2, _⟩ => show win0_1.index t (2 : Fin 3) * 1024 + 1 * k.val = k.val; omega

theorem blk2 (c : Dev nD) (t : Fin cfg0.N) (k : Fin 1024) :
    (iblk m c 2 t : Vec Ideal S1x1x1024 .f32) (ix3 0 0 k) = m ((c : Thread nD τ).loc main_arg1) (ix3 (batOf t) 0 ⟨1024 + k.val, by omega⟩) := by
  rw [← V_main_arg1 m c]
  unfold iblk
  rw [View.read_apply]
  show V m c main_arg1 _ = V m c main_arg1 _
  congr 1; funext a; apply Fin.ext
  obtain ⟨e0, e1, e2⟩ := idx2 t
  match a with
  | ⟨0, _⟩ => show win0_2.index t (0 : Fin 3) * 1 + 1 * 0 = t.val / 32; omega
  | ⟨1, _⟩ => show win0_2.index t (1 : Fin 3) * 1 + 1 * 0 = 0; omega
  | ⟨2, _⟩ => show win0_2.index t (2 : Fin 3) * 1024 + 1 * k.val = 1024 + k.val; omega

end Cert.Kernel3Ideal.Value

end
-- ==== Proof.InWeights.lean ====
/-
  The input projection's kernel: the weights in its column order, and the gain, as entries of the arguments.
-/
module

public import proofs.«01_k».proof.Proof.InBlocks

@[expose] public section

set_option maxRecDepth 16384

noncomputable section

namespace Cert.In

open Idealize.ShloMosaic

/-- A family over the columns read in the kernel's column order, nothing on the padding. -/
def pick (f : Fin 3344 → EReal) (j : Fin 3456) : EReal :=
  if h : j.val < 512 then f ⟨j.val, by omega⟩
  else if h : j.val < 768 then f ⟨j.val + 16, by omega⟩
  else if h : j.val < 784 then f ⟨j.val - 256, by omega⟩
  else if h : j.val < 896 then 0
  else f ⟨j.val - 112, by omega⟩

/-- Behind the padding, the column 112 places earlier. -/
theorem pick_tail (f : Fin 3344 → EReal) (j : Fin 3456) (hj : 896 ≤ j.val) {i : Fin 3344} (hi : i.val = j.val - 112) : pick f j = f i := by
  unfold pick
  rw [dif_neg (by omega), dif_neg (by omega), dif_neg (by omega), dif_neg (by omega)]
  exact congrArg f (Fin.ext hi.symm)

theorem proj_pick (x g sc sh : Fin 1024 → EReal) (W : Fin 1024 → Fin 3344 → EReal) (j : Fin 3456) :
    proj x g sc sh (fun k => pick (W k) j) = pick (fun i => proj x g sc sh (fun k => W k i)) j := by
  unfold pick
  split_ifs
  · rfl
  · rfl
  · rfl
  · simp [proj]
  · rfl

end Cert.In

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

theorem V_g (c : Dev nD) (k : Fin 1024) : V m c main_v9 (ix2 0 k) = m ((c : Thread nD τ).loc main_arg2) (ix1 k) := by
  have h : V m c main_v9 = shapeCast S1x1024 (m ((c : Thread nD τ).loc main_arg2)) shapeCasts_S1024_S1x1024 := by
    show StableHlo.after _ (fun b => m (c, b)) main_v9 = _
    simp only [hostOps0, hostOps0_1, hostOps0_2, List.flatten_cons, List.flatten_nil, List.append_nil, List.cons_append, List.nil_append]
    after_results
    rfl
  rw [h]
  pointwise

/-- Six column groups side by side, as the kernel's weights. -/
def cat6 (x0 x1 : FVec Ideal S1024x128 .f32) (x2 x3 : FVec Ideal S1024x256 .f32) (x4 : FVec Ideal S1024x128 .f32)
    (x5 : FVec Ideal S1024x2560 .f32) : FVec Ideal S1024x3456 .bf16 :=
  truncf .bf16 (concatenate S1024x3456 1 [⟨S1024x128, x0⟩, ⟨S1024x128, x1⟩, ⟨S1024x256, x2⟩, ⟨S1024x256, x3⟩, ⟨S1024x128, x4⟩, ⟨S1024x2560, x5⟩]
    concatenates_S1024x128_S1024x128_S1024x256_S1024x256_S1024x128_S1024x2560_S1024x3456_d1 : FVec Ideal S1024x3456 .f32) bitsLt_bf16_f32

/-- The weights with the columns in the kernel's order: the low-rank columns moved behind the gates and padded to a lane group. -/
def wcat (W : FVec Ideal S1024x3344 .f32) : FVec Ideal S1024x3456 .bf16 :=
  cat6 (extractStridedSlice S1024x128 ![0, 0] W slices_S1024x3344_S1024x128_0_0)
    (extractStridedSlice S1024x128 ![0, 128] W slices_S1024x3344_S1024x128_0_128)
    (extractStridedSlice S1024x256 ![0, 256] W slices_S1024x3344_S1024x256_0_256)
    (extractStridedSlice S1024x256 ![0, 528] W slices_S1024x3344_S1024x256_0_528)
    (pad S1024x128 ![0, 0] ![0, 112] ![0, 0] (extractStridedSlice S1024x16 ![0, 512] W slices_S1024x3344_S1024x16_0_512)
       (sitofp .f32 (constantI S_ 32 0#32) : FVec Ideal S_ .f32) pads_S1024x16_S1024x128_000_01120 h_S_)
    (extractStridedSlice S1024x2560 ![0, 784] W slices_S1024x3344_S1024x2560_0_784)

theorem V_w8 (c : Dev nD) : (V m c main_v8 : FVec Ideal S1024x3456 .bf16) = wcat (m ((c : Thread nD τ).loc main_arg3)) := by
  show StableHlo.after _ (fun b => m (c, b)) main_v8 = _
  simp only [hostOps0, hostOps0_1, hostOps0_2, List.flatten_cons, List.flatten_nil, List.append_nil, List.cons_append, List.nil_append]
  after_results
  refine Eq.trans (b := cat6 _ _ _ _ _ _) rfl ?_
  unfold wcat
  refine congr (congr (congr (congr (congr (congrArg cat6 ?_) ?_) ?_) ?_) ?_) ?_
  all_goals rfl

/-- The column groups read at a column: the group it falls in, at its place there. -/
theorem cat6_apply (x0 x1 : FVec Ideal S1024x128 .f32) (x2 x3 : FVec Ideal S1024x256 .f32) (x4 : FVec Ideal S1024x128 .f32)
    (x5 : FVec Ideal S1024x2560 .f32) (k : Fin 1024) (j : Fin 3456) :
    (cat6 x0 x1 x2 x3 x4 x5 (ix2 k j) : EReal) =
      if h : j.val < 128 then x0 (ix2 k ⟨j.val, h⟩)
      else if h : j.val - 128 < 128 then x1 (ix2 k ⟨j.val - 128, h⟩)
      else if h : j.val - 128 - 128 < 256 then x2 (ix2 k ⟨j.val - 128 - 128, h⟩)
      else if h : j.val - 128 - 128 - 256 < 256 then x3 (ix2 k ⟨j.val - 128 - 128 - 256, h⟩)
      else if h : j.val - 128 - 128 - 256 - 256 < 128 then x4 (ix2 k ⟨j.val - 128 - 128 - 256 - 256, h⟩)
      else x5 (ix2 k ⟨j.val - 128 - 128 - 256 - 256 - 128, by omega⟩) := by
  unfold cat6
  pointwise

theorem cols0 (W : FVec Ideal S1024x3344 .f32) (k : Fin 1024) (j : Fin 128) :
    (extractStridedSlice S1024x128 ![0, 0] W slices_S1024x3344_S1024x128_0_0 : FVec Ideal S1024x128 .f32) (ix2 k j) = W (ix2 k ⟨j.val, by omega⟩) := by
  pointwise

theorem cols128 (W : FVec Ideal S1024x3344 .f32) (k : Fin 1024) (j : Fin 128) :
    (extractStridedSlice S1024x128 ![0, 128] W slices_S1024x3344_S1024x128_0_128 : FVec Ideal S1024x128 .f32) (ix2 k j) = W (ix2 k ⟨128 + j.val, by omega⟩) := by
  pointwise

theorem cols256 (W : FVec Ideal S1024x3344 .f32) (k : Fin 1024) (j : Fin 256) :
    (extractStridedSlice S1024x256 ![0, 256] W slices_S1024x3344_S1024x256_0_256 : FVec Ideal S1024x256 .f32) (ix2 k j) = W (ix2 k ⟨256 + j.val, by omega⟩) := by
  pointwise

theorem cols528 (W : FVec Ideal S1024x3344 .f32) (k : Fin 1024) (j : Fin 256) :
    (extractStridedSlice S1024x256 ![0, 528] W slices_S1024x3344_S1024x256_0_528 : FVec Ideal S1024x256 .f32) (ix2 k j) = W (ix2 k ⟨528 + j.val, by omega⟩) := by
  pointwise

theorem cols784 (W : FVec Ideal S1024x3344 .f32) (k : Fin 1024) (j : Fin 2560) :
    (extractStridedSlice S1024x2560 ![0, 784] W slices_S1024x3344_S1024x2560_0_784 : FVec Ideal S1024x2560 .f32) (ix2 k j) = W (ix2 k ⟨784 + j.val, by omega⟩) := by
  pointwise

theorem colsLow (W : FVec Ideal S1024x3344 .f32) (z : FVec Ideal S_ .f32) (k : Fin 1024) (j : Fin 128) :
    (pad S1024x128 ![0, 0] ![0, 112] ![0, 0] (extractStridedSlice S1024x16 ![0, 512] W slices_S1024x3344_S1024x16_0_512)
       z pads_S1024x16_S1024x128_000_01120 h_S_ : FVec Ideal S1024x128 .f32) (ix2 k j)
      = if h : j.val < 16 then W (ix2 k ⟨512 + j.val, by omega⟩) else z ix0 := by
  pointwise
  rw [show Shape.Idx.first h_S_ = ix0 from funext fun a => a.elim0]

theorem zero_apply : ((sitofp .f32 (constantI S_ 32 0#32) : FVec Ideal S_ .f32) ix0 : EReal) = 0 := by
  show (((0#32 : BitVec 32).toInt : ℝ) : EReal) = 0
  simp

/-- The kernel's weights at an element: the argument's entry in the column's order, nothing on the padding. -/
theorem wcat_apply (W : FVec Ideal S1024x3344 .f32) (k : Fin 1024) (j : Fin 3456) :
    (wcat W (ix2 k j) : EReal) = In.pick (fun i : Fin 3344 => W (ix2 k i)) j := by
  have hj := j.isLt
  have e : ∀ a b : Fin 3344, a.val = b.val → W (ix2 k a) = W (ix2 k b) := fun a b h => by rw [Fin.ext h]
  unfold wcat
  rw [cat6_apply]
  unfold In.pick
  by_cases h1 : j.val < 128
  · rw [dif_pos h1, dif_pos (by omega), cols0]
  rw [dif_neg h1]
  by_cases h2 : j.val < 256
  · rw [dif_pos (by omega), dif_pos (by omega), cols128]
    exact e _ _ (by dsimp only; omega)
  rw [dif_neg (by omega)]
  by_cases h3 : j.val < 512
  · rw [dif_pos (by omega), dif_pos (by omega), cols256]
    exact e _ _ (by dsimp only; omega)
  rw [dif_neg (by omega)]
  by_cases h4 : j.val < 768
  · rw [dif_pos (by omega), dif_neg (by omega), dif_pos (by omega), cols528]
    exact e _ _ (by dsimp only; omega)
  rw [dif_neg (by omega)]
  by_cases h5 : j.val < 784
  · rw [dif_pos (by omega), dif_neg (by omega), dif_neg (by omega), dif_pos (by omega), colsLow, dif_pos (by dsimp only; omega)]
    exact e _ _ (by dsimp only; omega)
  by_cases h6 : j.val < 896
  · rw [dif_pos (by omega), dif_neg (by omega), dif_neg (by omega), dif_neg (by omega), dif_pos (by omega), colsLow,
      dif_neg (by dsimp only; omega), zero_apply]
  rw [dif_neg (by omega), dif_neg (by omega), dif_neg (by omega), dif_neg (by omega), dif_neg (by omega), cols784]
  exact e _ _ (by dsimp only; omega)

theorem blk3 (c : Dev nD) (t : Fin cfg0.N) (k : Fin 1024) :
    (iblk m c 3 t : Vec Ideal S1x1024 .f32) (ix2 0 k) = m ((c : Thread nD τ).loc main_arg2) (ix1 k) := by
  rw [← V_g m c k]
  unfold iblk
  rw [View.read_apply]
  show V m c main_v9 _ = V m c main_v9 _
  congr 1; funext a; apply Fin.ext
  obtain ⟨e0, e1⟩ := idx3 t
  match a with
  | ⟨0, _⟩ => show win0_3.index t (0 : Fin 2) * 1 + 1 * 0 = 0; omega
  | ⟨1, _⟩ => show win0_3.index t (1 : Fin 2) * 1024 + 1 * k.val = k.val; omega

theorem blk4 (c : Dev nD) (t : Fin cfg0.N) (k : Fin 1024) (j : Fin 3456) :
    ((iblk m c 4 t : Vec Ideal S1024x3456 .bf16) (ix2 k j) : EReal)
      = In.pick (fun i : Fin 3344 => m ((c : Thread nD τ).loc main_arg3) (ix2 k i)) j := by
  refine Eq.trans ?_ (wcat_apply (m ((c : Thread nD τ).loc main_arg3)) k j)
  rw [← V_w8 m c]
  unfold iblk
  rw [View.read_apply]
  show V m c main_v8 _ = V m c main_v8 _
  congr 1; funext a; apply Fin.ext
  obtain ⟨e0, e1⟩ := idx4 t
  match a with
  | ⟨0, _⟩ => show win0_4.index t (0 : Fin 2) * 1024 + 1 * k.val = k.val; omega
  | ⟨1, _⟩ => show win0_4.index t (1 : Fin 2) * 3456 + 1 * j.val = j.val; omega

end Cert.Kernel3Ideal.Value

end
-- ==== Proof.InValue.lean ====
/-
  The input projection's kernel: its three result arrays at an element.
-/
module

public import proofs.«01_k».proof.Proof.InWeights

@[expose] public section

set_option maxRecDepth 16384

noncomputable section

namespace Cert.In

open Idealize.ShloMosaic

/-- The projected value of row `n` at column `i` of the weights, from the call's arguments. -/
def val (x : Fin 16384 → Fin 1024 → EReal) (mod : Fin 2 → Fin 6144 → EReal) (g : Fin 1024 → EReal) (w : Fin 1024 → Fin 3344 → EReal)
    (n : Fin 16384) (i : Fin 3344) : EReal :=
  proj (x n) g (fun k => mod ⟨n.val / 8192, by omega⟩ ⟨1024 + k.val, by omega⟩) (fun k => mod ⟨n.val / 8192, by omega⟩ ⟨k.val, by omega⟩)
    (fun k => w k i)

end Cert.In

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

/-- The projected value of row `n` at column `i` of the weights, from the arguments as launched. -/
abbrev inval (c : Dev nD) : Fin 16384 → Fin 3344 → EReal :=
  In.val (fun n k => m ((c : Thread nD τ).loc main_arg0) (ix2 n k)) (fun b k => m ((c : Thread nD τ).loc main_arg1) (ix3 b 0 k))
    (fun k => m ((c : Thread nD τ).loc main_arg2) (ix1 k)) (fun k i => m ((c : Thread nD τ).loc main_arg3) (ix2 k i))

/-- The tile of point `t` over its blocks. -/
theorem tile_blk (c : Dev nD) (t : Fin cfg0.N) (r : Fin 256) (j : Fin 3456) :
    (k0_pay1 (iblk m c 0 t) (iblk m c 3 t) (iblk m c 2 t) (iblk m c 1 t) (iblk m c 4 t) (ix2 r j) : EReal)
      = In.pick (inval m c (rowOf t r)) j := by
  have hb : (⟨(rowOf t r).val / 8192, by have := (rowOf t r).isLt; omega⟩ : Fin 2) = batOf t := Fin.ext (by
    show (256 * t.val + r.val) / 8192 = t.val / 32; have := r.isLt; omega)
  rw [tile_apply]
  simp only [blk0, blk1, blk2, blk3, blk4]
  rw [In.proj_pick]
  unfold inval In.val
  rw [hb]

theorem hz2 : (![0, 0] : Fin 2 → Nat) = fun _ => 0 := funext fun a => by fin_cases a <;> rfl
theorem hz3 : (![0, 0, 0] : Fin 3 → Nat) = fun _ => 0 := funext fun a => by fin_cases a <;> rfl

/-- Output window 5's array: the columns 0 to 896 of the kernel's column order. -/
abbrev res5 (c : Dev nD) : FVec Ideal S16384x896 .f32 := fun i =>
  In.pick (inval m c (i 0)) ⟨0 + (i 1).val, by have h : (i 1).val < 896 := (i 1).isLt; omega⟩

theorem emb5 (t : Fin cfg0.N) (r : Fin 256) (j : Fin 896) :
    ((cfg0.win 5).blk t).view.emb (ix2 r j) = (ix2 (rowOf t r) j : S16384x896.Idx) := by
  obtain ⟨e0, e1⟩ := idx5 t
  funext a; apply Fin.ext
  match a with
  | ⟨0, _⟩ => show win0_5.index t (0 : Fin 2) * 256 + 1 * r.val = 256 * t.val + r.val; omega
  | ⟨1, _⟩ => show win0_5.index t (1 : Fin 2) * 896 + 1 * j.val = j.val; omega

theorem flushed5_eq (c : Dev nD) (t : Fin cfg0.N) :
    (dats m 0 c).flushed 5 t = ((cfg0.win 5).blk t).view.read (Elt Ideal) (res5 m c) := by
  rw [flushed5]
  unfold out0_5
  simp only [View.ld_unit_zero (S := S256x1024) hz2, View.ld_unit_zero (S := S1x1024) hz2, View.ld_unit_zero (S := S1x1x1024) hz3,
    View.ld_unit_zero (S := S1024x3456) hz2]
  funext y
  obtain ⟨r, j, rfl⟩ : ∃ (r : Fin 256) (j : Fin 896), y = ix2 r j := ⟨y 0, y 1, by funext a; match a with | ⟨0, _⟩ => rfl | ⟨1, _⟩ => rfl⟩
  refine Eq.trans (canon5_eq (iblk m c 0 t) (iblk m c 3 t) (iblk m c 2 t) (iblk m c 1 t) (iblk m c 4 t) (ix2 r j)) ?_
  show _ = res5 m c (((cfg0.win 5).blk t).view.emb (ix2 r j))
  rw [emb5]
  refine Eq.trans (congrArg (k0_pay1 _ _ _ _ _) ?_) (tile_blk m c t r ⟨0 + j.val, by omega⟩)
  funext a; apply Fin.ext
  match a with
  | ⟨0, _⟩ => rfl
  | ⟨1, _⟩ => show j.val = 0 + j.val; omega

theorem covered5 (i : S16384x896.Idx) : ∃ t : Fin cfg0.N, (cfg0.win 5).flush t = true ∧ i ∈ ((cfg0.win 5).blk t).view.set := by
  have h0 : (i 0).val < 16384 := (i 0).isLt
  have hN := hN
  let t : Fin cfg0.N := ⟨(i 0).val / 256, by omega⟩
  refine ⟨t, flush0_5 t, ?_⟩
  have h := ((cfg0.win 5).blk t).view.emb_mem_set (ix2 (⟨(i 0).val % 256, by omega⟩ : Fin 256) (i 1 : Fin 896))
  have e : (ix2 (rowOf t ⟨(i 0).val % 256, by omega⟩) (i 1 : Fin 896) : S16384x896.Idx) = i := by
    funext a; apply Fin.ext
    match a with
    | ⟨0, _⟩ => show 256 * ((i 0).val / 256) + (i 0).val % 256 = (i 0).val; omega
    | ⟨1, _⟩ => rfl
  exact Eq.mp (congrArg (fun q => q ∈ ((cfg0.win 5).blk t).view.set) ((emb5 t _ _).trans e)) h

theorem final5 (c : Dev nD) : (dats m 0 c).arrAt 5 cfg0.N = res5 m c :=
  (dats m 0 c).arrAt_eq_of_cover 5 (res5 m c) (fun t _ => flushed5_eq m c t) covered5

/-- Output window 6's array: the columns 896 to 1920 of the kernel's column order. -/
abbrev res6 (c : Dev nD) : FVec Ideal S16384x1024 .f32 := fun i =>
  In.pick (inval m c (i 0)) ⟨896 + (i 1).val, by have h : (i 1).val < 1024 := (i 1).isLt; omega⟩

theorem emb6 (t : Fin cfg0.N) (r : Fin 256) (j : Fin 1024) :
    ((cfg0.win 6).blk t).view.emb (ix2 r j) = (ix2 (rowOf t r) j : S16384x1024.Idx) := by
  obtain ⟨e0, e1⟩ := idx6 t
  funext a; apply Fin.ext
  match a with
  | ⟨0, _⟩ => show win0_6.index t (0 : Fin 2) * 256 + 1 * r.val = 256 * t.val + r.val; omega
  | ⟨1, _⟩ => show win0_6.index t (1 : Fin 2) * 1024 + 1 * j.val = j.val; omega

theorem flushed6_eq (c : Dev nD) (t : Fin cfg0.N) :
    (dats m 0 c).flushed 6 t = ((cfg0.win 6).blk t).view.read (Elt Ideal) (res6 m c) := by
  rw [flushed6]
  unfold out0_6
  simp only [View.ld_unit_zero (S := S256x1024) hz2, View.ld_unit_zero (S := S1x1024) hz2, View.ld_unit_zero (S := S1x1x1024) hz3,
    View.ld_unit_zero (S := S1024x3456) hz2]
  funext y
  obtain ⟨r, j, rfl⟩ : ∃ (r : Fin 256) (j : Fin 1024), y = ix2 r j := ⟨y 0, y 1, by funext a; match a with | ⟨0, _⟩ => rfl | ⟨1, _⟩ => rfl⟩
  refine Eq.trans (canon6_eq (iblk m c 0 t) (iblk m c 3 t) (iblk m c 2 t) (iblk m c 1 t) (iblk m c 4 t) (ix2 r j)) ?_
  show _ = res6 m c (((cfg0.win 6).blk t).view.emb (ix2 r j))
  rw [emb6]
  refine Eq.trans (congrArg (k0_pay1 _ _ _ _ _) ?_) (tile_blk m c t r ⟨896 + j.val, by omega⟩)
  funext a; apply Fin.ext
  match a with
  | ⟨0, _⟩ => rfl
  | ⟨1, _⟩ => show j.val + 896 = 896 + j.val; omega

theorem covered6 (i : S16384x1024.Idx) : ∃ t : Fin cfg0.N, (cfg0.win 6).flush t = true ∧ i ∈ ((cfg0.win 6).blk t).view.set := by
  have h0 : (i 0).val < 16384 := (i 0).isLt
  have hN := hN
  let t : Fin cfg0.N := ⟨(i 0).val / 256, by omega⟩
  refine ⟨t, flush0_6 t, ?_⟩
  have h := ((cfg0.win 6).blk t).view.emb_mem_set (ix2 (⟨(i 0).val % 256, by omega⟩ : Fin 256) (i 1 : Fin 1024))
  have e : (ix2 (rowOf t ⟨(i 0).val % 256, by omega⟩) (i 1 : Fin 1024) : S16384x1024.Idx) = i := by
    funext a; apply Fin.ext
    match a with
    | ⟨0, _⟩ => show 256 * ((i 0).val / 256) + (i 0).val % 256 = (i 0).val; omega
    | ⟨1, _⟩ => rfl
  exact Eq.mp (congrArg (fun q => q ∈ ((cfg0.win 6).blk t).view.set) ((emb6 t _ _).trans e)) h

theorem final6 (c : Dev nD) : (dats m 0 c).arrAt 6 cfg0.N = res6 m c :=
  (dats m 0 c).arrAt_eq_of_cover 6 (res6 m c) (fun t _ => flushed6_eq m c t) covered6

/-- Output window 7's array: the columns 1920 to 3456 of the kernel's column order. -/
abbrev res7 (c : Dev nD) : FVec Ideal S16384x1536 .f32 := fun i =>
  In.pick (inval m c (i 0)) ⟨1920 + (i 1).val, by have h : (i 1).val < 1536 := (i 1).isLt; omega⟩

theorem emb7 (t : Fin cfg0.N) (r : Fin 256) (j : Fin 1536) :
    ((cfg0.win 7).blk t).view.emb (ix2 r j) = (ix2 (rowOf t r) j : S16384x1536.Idx) := by
  obtain ⟨e0, e1⟩ := idx7 t
  funext a; apply Fin.ext
  match a with
  | ⟨0, _⟩ => show win0_7.index t (0 : Fin 2) * 256 + 1 * r.val = 256 * t.val + r.val; omega
  | ⟨1, _⟩ => show win0_7.index t (1 : Fin 2) * 1536 + 1 * j.val = j.val; omega

theorem flushed7_eq (c : Dev nD) (t : Fin cfg0.N) :
    (dats m 0 c).flushed 7 t = ((cfg0.win 7).blk t).view.read (Elt Ideal) (res7 m c) := by
  rw [flushed7]
  unfold out0_7
  simp only [View.ld_unit_zero (S := S256x1024) hz2, View.ld_unit_zero (S := S1x1024) hz2, View.ld_unit_zero (S := S1x1x1024) hz3,
    View.ld_unit_zero (S := S1024x3456) hz2]
  funext y
  obtain ⟨r, j, rfl⟩ : ∃ (r : Fin 256) (j : Fin 1536), y = ix2 r j := ⟨y 0, y 1, by funext a; match a with | ⟨0, _⟩ => rfl | ⟨1, _⟩ => rfl⟩
  refine Eq.trans (canon7_eq (iblk m c 0 t) (iblk m c 3 t) (iblk m c 2 t) (iblk m c 1 t) (iblk m c 4 t) (ix2 r j)) ?_
  show _ = res7 m c (((cfg0.win 7).blk t).view.emb (ix2 r j))
  rw [emb7]
  refine Eq.trans (congrArg (k0_pay1 _ _ _ _ _) ?_) (tile_blk m c t r ⟨1920 + j.val, by omega⟩)
  funext a; apply Fin.ext
  match a with
  | ⟨0, _⟩ => rfl
  | ⟨1, _⟩ => show j.val + 1920 = 1920 + j.val; omega

theorem covered7 (i : S16384x1536.Idx) : ∃ t : Fin cfg0.N, (cfg0.win 7).flush t = true ∧ i ∈ ((cfg0.win 7).blk t).view.set := by
  have h0 : (i 0).val < 16384 := (i 0).isLt
  have hN := hN
  let t : Fin cfg0.N := ⟨(i 0).val / 256, by omega⟩
  refine ⟨t, flush0_7 t, ?_⟩
  have h := ((cfg0.win 7).blk t).view.emb_mem_set (ix2 (⟨(i 0).val % 256, by omega⟩ : Fin 256) (i 1 : Fin 1536))
  have e : (ix2 (rowOf t ⟨(i 0).val % 256, by omega⟩) (i 1 : Fin 1536) : S16384x1536.Idx) = i := by
    funext a; apply Fin.ext
    match a with
    | ⟨0, _⟩ => show 256 * ((i 0).val / 256) + (i 0).val % 256 = (i 0).val; omega
    | ⟨1, _⟩ => rfl
  exact Eq.mp (congrArg (fun q => q ∈ ((cfg0.win 7).blk t).view.set) ((emb7 t _ _).trans e)) h

theorem final7 (c : Dev nD) : (dats m 0 c).arrAt 7 cfg0.N = res7 m c :=
  (dats m 0 c).arrAt_eq_of_cover 7 (res7 m c) (fun t _ => flushed7_eq m c t) covered7

end Cert.Kernel3Ideal.Value

end
-- ==== Proof.InRef.lean ====
/-
  The input projection's reference: its three result arrays at an element.
-/
module

public import proofs.«01_k».proof.Proof.InValue
public import proofs.«01_k».proof.Proof.Gen.Reference3Ideal.Read

@[expose] public section

set_option maxRecDepth 16384

noncomputable section

namespace Cert.Reference3Ideal.Read

open Cert.Reference3Ideal Idealize.ShloMosaic Idealize.ShloMosaic.TcCoe

variable (x0 : FVec Ideal S16384x1024 .f32) (x1 : FVec Ideal S2x1x6144 .f32) (x2 : FVec Ideal S1024 .f32) (x3 : FVec Ideal S1024x3344 .f32)

/-- Token `s` of batch `b` among the rows. -/
abbrev tok (b : Fin 2) (s : Fin 8192) : Fin 16384 := ⟨b.val * 8192 + s.val, by omega⟩

theorem x_apply (b : Fin 2) (s : Fin 8192) (k : Fin 1024) : val_main_v6 (F := Ideal) x0 (ix3 b s k) = x0 (ix2 (tok b s) k) := by
  pointwise [val_main_v6]

theorem ms_apply (b : Fin 2) (s : Fin 8192) :
    (val_main_v8 (F := Ideal) x0 (ix2 b s) : EReal) = ∑ j : Fin 1024, x0 (ix2 (tok b s) j) * x0 (ix2 (tok b s) j) := by
  have h : ∀ j : Fin 1024, (val_main_v7 (F := Ideal) x0 (ix3 b s j) : EReal) = x0 (ix2 (tok b s) j) * x0 (ix2 (tok b s) j) := fun j => by
    show (val_main_v6 (F := Ideal) x0 (ix3 b s j) : EReal) * val_main_v6 (F := Ideal) x0 (ix3 b s j) = _
    rw [x_apply]
  unfold val_main_v8
  pointwise
  simp only [h]
  rw [show val_main_cst (F := Ideal) (Shape.Idx.first Gen.h_S_) = Ideal.ofBits .f32 0x00000000#32 from rfl, Ideal.ofBits_zero_f32, zero_add]

theorem row_apply (b : Fin 2) (s : Fin 8192) (k : Fin 1024) :
    (val_main_v25 (F := Ideal) x0 x1 x2 (ix3 b s k) : EReal) = In.row (fun k => x0 (ix2 (tok b s) k)) (fun k => x2 (ix1 k))
      (fun k => x1 (ix3 b 0 ⟨1024 + k.val, by omega⟩)) (fun k => x1 (ix3 b 0 ⟨k.val, by omega⟩)) k := by
  pointwise [val_main_v25, val_main_v24, val_main_v23, val_main_v22, val_main_v21, val_main_v20, val_main_cst_2, val_main_v19, val_main_v18,
    val_main_v17, val_main_v16, val_main_v15, val_main_v14, val_main_v13, val_main_v12, val_main_cst_1, val_main_v11, val_main_v10, val_main_cst_0,
    val_main_v9, val_main_v1, val_main_v0]
  rw [x_apply, ms_apply]
  rfl

theorem proj_apply (b : Fin 2) (s : Fin 8192) (i : Fin 3344) :
    (val_main_v26 (F := Ideal) x0 x1 x2 x3 (ix3 b s i) : EReal) = In.val (fun n k => x0 (ix2 n k)) (fun b k => x1 (ix3 b 0 k)) (fun k => x2 (ix1 k))
      (fun k i => x3 (ix2 k i)) (tok b s) i := by
  have hb : (⟨(tok b s).val / 8192, by have := (tok b s).isLt; omega⟩ : Fin 2) = b := Fin.ext (by
    show (b.val * 8192 + s.val) / 8192 = b.val; have := s.isLt; omega)
  have h := row_apply x0 x1 x2 b s
  unfold val_main_v26
  pointwise
  simp only [h]
  unfold In.val
  rw [hb]
  rfl

/-- The projected values of token `s` of batch `b`. -/
abbrev vals (b : Fin 2) (s : Fin 8192) : Fin 3344 → EReal :=
  fun i => val_main_v26 (F := Ideal) x0 x1 x2 x3 (ix3 b s i)

/-- Columns 784 to 1808 of the projected values, batches and tokens as rows. -/
def part38 (p : FVec Ideal S2x8192x3344 .f32) : FVec Ideal S16384x1024 .f32 :=
  shapeCast S16384x1024 (extractStridedSlice S2x8192x1024 ![0, 0, 784] p Gen.slices_S2x8192x3344_S2x8192x1024_0_0_784 : FVec Ideal S2x8192x1024 .f32)
    Gen.shapeCasts_S2x8192x1024_S16384x1024

/-- Columns 1808 to 3344 of the projected values, batches and tokens as rows. -/
def part39 (p : FVec Ideal S2x8192x3344 .f32) : FVec Ideal S16384x1536 .f32 :=
  shapeCast S16384x1536 (extractStridedSlice S2x8192x1536 ![0, 0, 1808] p Gen.slices_S2x8192x3344_S2x8192x1536_0_0_1808 : FVec Ideal S2x8192x1536 .f32)
    Gen.shapeCasts_S2x8192x1536_S16384x1536

/-- Six column groups side by side, batches and tokens as rows. -/
def cat6 (y0 y1 : FVec Ideal S2x8192x128 .f32) (y2 y3 : FVec Ideal S2x8192x256 .f32) (y4 : FVec Ideal S2x8192x16 .f32)
    (y5 : FVec Ideal S2x8192x112 .f32) : FVec Ideal S16384x896 .f32 :=
  shapeCast S16384x896 (concatenate S2x8192x896 2 [⟨S2x8192x128, y0⟩, ⟨S2x8192x128, y1⟩, ⟨S2x8192x256, y2⟩, ⟨S2x8192x256, y3⟩, ⟨S2x8192x16, y4⟩, ⟨S2x8192x112, y5⟩]
    Gen.concatenates_S2x8192x128_S2x8192x128_S2x8192x256_S2x8192x256_S2x8192x16_S2x8192x112_S2x8192x896_d2 : FVec Ideal S2x8192x896 .f32)
    Gen.shapeCasts_S2x8192x896_S16384x896

theorem part38_apply (p : FVec Ideal S2x8192x3344 .f32) (n : Fin 16384) (j : Fin 1024) :
    part38 p (ix2 n j) = p (ix3 (⟨n.val / 8192, by omega⟩ : Fin 2) (⟨n.val % 8192, by omega⟩ : Fin 8192) ⟨784 + j.val, by omega⟩) := by
  unfold part38
  pointwise

theorem part39_apply (p : FVec Ideal S2x8192x3344 .f32) (n : Fin 16384) (j : Fin 1536) :
    part39 p (ix2 n j) = p (ix3 (⟨n.val / 8192, by omega⟩ : Fin 2) (⟨n.val % 8192, by omega⟩ : Fin 8192) ⟨1808 + j.val, by omega⟩) := by
  unfold part39
  pointwise

theorem cat6_apply (y0 y1 : FVec Ideal S2x8192x128 .f32) (y2 y3 : FVec Ideal S2x8192x256 .f32) (y4 : FVec Ideal S2x8192x16 .f32)
    (y5 : FVec Ideal S2x8192x112 .f32) (n : Fin 16384) (j : Fin 896) :
    cat6 y0 y1 y2 y3 y4 y5 (ix2 n j) =
      if h : j.val < 128 then y0 (ix3 (⟨n.val / 8192, by omega⟩ : Fin 2) (⟨n.val % 8192, by omega⟩ : Fin 8192) ⟨j.val, h⟩)
      else if h : j.val - 128 < 128 then y1 (ix3 (⟨n.val / 8192, by omega⟩ : Fin 2) (⟨n.val % 8192, by omega⟩ : Fin 8192) ⟨j.val - 128, h⟩)
      else if h : j.val - 128 - 128 < 256 then y2 (ix3 (⟨n.val / 8192, by omega⟩ : Fin 2) (⟨n.val % 8192, by omega⟩ : Fin 8192) ⟨j.val - 128 - 128, h⟩)
      else if h : j.val - 128 - 128 - 256 < 256 then
        y3 (ix3 (⟨n.val / 8192, by omega⟩ : Fin 2) (⟨n.val % 8192, by omega⟩ : Fin 8192) ⟨j.val - 128 - 128 - 256, h⟩)
      else if h : j.val - 128 - 128 - 256 - 256 < 16 then
        y4 (ix3 (⟨n.val / 8192, by omega⟩ : Fin 2) (⟨n.val % 8192, by omega⟩ : Fin 8192) ⟨j.val - 128 - 128 - 256 - 256, h⟩)
      else y5 (ix3 (⟨n.val / 8192, by omega⟩ : Fin 2) (⟨n.val % 8192, by omega⟩ : Fin 8192) ⟨j.val - 128 - 128 - 256 - 256 - 16, by omega⟩) := by
  unfold cat6
  pointwise

theorem cols0 (p : FVec Ideal S2x8192x3344 .f32) (b : Fin 2) (s : Fin 8192) (j : Fin 128) :
    (extractStridedSlice S2x8192x128 ![0, 0, 0] (extractStridedSlice S2x8192x784 ![0, 0, 0] p Gen.slices_S2x8192x3344_S2x8192x784_0_0_0 : FVec Ideal S2x8192x784 .f32)
      Gen.slices_S2x8192x784_S2x8192x128_0_0_0 : FVec Ideal S2x8192x128 .f32) (ix3 b s j) = p (ix3 b s ⟨j.val, by omega⟩) := by
  pointwise

theorem cols128 (p : FVec Ideal S2x8192x3344 .f32) (b : Fin 2) (s : Fin 8192) (j : Fin 128) :
    (extractStridedSlice S2x8192x128 ![0, 0, 128] (extractStridedSlice S2x8192x784 ![0, 0, 0] p Gen.slices_S2x8192x3344_S2x8192x784_0_0_0 : FVec Ideal S2x8192x784 .f32)
      Gen.slices_S2x8192x784_S2x8192x128_0_0_128 : FVec Ideal S2x8192x128 .f32) (ix3 b s j) = p (ix3 b s ⟨128 + j.val, by omega⟩) := by
  pointwise

theorem cols256 (p : FVec Ideal S2x8192x3344 .f32) (b : Fin 2) (s : Fin 8192) (j : Fin 256) :
    (extractStridedSlice S2x8192x256 ![0, 0, 256] (extractStridedSlice S2x8192x784 ![0, 0, 0] p Gen.slices_S2x8192x3344_S2x8192x784_0_0_0 : FVec Ideal S2x8192x784 .f32)
      Gen.slices_S2x8192x784_S2x8192x256_0_0_256 : FVec Ideal S2x8192x256 .f32) (ix3 b s j) = p (ix3 b s ⟨256 + j.val, by omega⟩) := by
  pointwise

theorem cols528 (p : FVec Ideal S2x8192x3344 .f32) (b : Fin 2) (s : Fin 8192) (j : Fin 256) :
    (extractStridedSlice S2x8192x256 ![0, 0, 528] (extractStridedSlice S2x8192x784 ![0, 0, 0] p Gen.slices_S2x8192x3344_S2x8192x784_0_0_0 : FVec Ideal S2x8192x784 .f32)
      Gen.slices_S2x8192x784_S2x8192x256_0_0_528 : FVec Ideal S2x8192x256 .f32) (ix3 b s j) = p (ix3 b s ⟨528 + j.val, by omega⟩) := by
  pointwise

theorem cols512 (p : FVec Ideal S2x8192x3344 .f32) (b : Fin 2) (s : Fin 8192) (j : Fin 16) :
    (extractStridedSlice S2x8192x16 ![0, 0, 512] (extractStridedSlice S2x8192x784 ![0, 0, 0] p Gen.slices_S2x8192x3344_S2x8192x784_0_0_0 : FVec Ideal S2x8192x784 .f32)
      Gen.slices_S2x8192x784_S2x8192x16_0_0_512 : FVec Ideal S2x8192x16 .f32) (ix3 b s j) = p (ix3 b s ⟨512 + j.val, by omega⟩) := by
  pointwise

theorem zeros (b : Fin 2) (s : Fin 8192) (j : Fin 112) : (val_main_v35 (F := Ideal) (ix3 b s j) : EReal) = 0 := by
  pointwise [val_main_v35, val_main_cst_3]

/-- The first 784 projected values in the kernel's column order, zeros behind them. -/
def part37 (p : FVec Ideal S2x8192x3344 .f32) : FVec Ideal S16384x896 .f32 :=
  let q : FVec Ideal S2x8192x784 .f32 := extractStridedSlice S2x8192x784 ![0, 0, 0] p Gen.slices_S2x8192x3344_S2x8192x784_0_0_0
  cat6 (extractStridedSlice S2x8192x128 ![0, 0, 0] q Gen.slices_S2x8192x784_S2x8192x128_0_0_0)
    (extractStridedSlice S2x8192x128 ![0, 0, 128] q Gen.slices_S2x8192x784_S2x8192x128_0_0_128)
    (extractStridedSlice S2x8192x256 ![0, 0, 256] q Gen.slices_S2x8192x784_S2x8192x256_0_0_256)
    (extractStridedSlice S2x8192x256 ![0, 0, 528] q Gen.slices_S2x8192x784_S2x8192x256_0_0_528)
    (extractStridedSlice S2x8192x16 ![0, 0, 512] q Gen.slices_S2x8192x784_S2x8192x16_0_0_512)
    (val_main_v35 (F := Ideal))

theorem part37_apply (p : FVec Ideal S2x8192x3344 .f32) (n : Fin 16384) (j : Fin 896) :
    (part37 p (ix2 n j) : EReal) = In.pick (fun i => p (ix3 (⟨n.val / 8192, by omega⟩ : Fin 2) (⟨n.val % 8192, by omega⟩ : Fin 8192) i)) ⟨j.val, by omega⟩ := by
  have hj := j.isLt
  have e : ∀ a b : Fin 3344, a.val = b.val → p (ix3 (⟨n.val / 8192, by omega⟩ : Fin 2) (⟨n.val % 8192, by omega⟩ : Fin 8192) a)
      = p (ix3 (⟨n.val / 8192, by omega⟩ : Fin 2) (⟨n.val % 8192, by omega⟩ : Fin 8192) b) := fun a b h => by rw [Fin.ext h]
  unfold part37
  rw [cat6_apply]
  unfold In.pick
  by_cases h1 : j.val < 128
  · rw [dif_pos h1, dif_pos (by dsimp only; omega), cols0]
  rw [dif_neg h1]
  by_cases h2 : j.val < 256
  · rw [dif_pos (by omega), dif_pos (by dsimp only; omega), cols128]
    exact e _ _ (by dsimp only; omega)
  rw [dif_neg (by omega)]
  by_cases h3 : j.val < 512
  · rw [dif_pos (by omega), dif_pos (by dsimp only; omega), cols256]
    exact e _ _ (by dsimp only; omega)
  rw [dif_neg (by omega)]
  by_cases h4 : j.val < 768
  · rw [dif_pos (by omega), dif_neg (by dsimp only; omega), dif_pos (by dsimp only; omega), cols528]
    exact e _ _ (by dsimp only; omega)
  rw [dif_neg (by omega)]
  by_cases h5 : j.val < 784
  · rw [dif_pos (by omega), dif_neg (by dsimp only; omega), dif_neg (by dsimp only; omega), dif_pos (by dsimp only; omega), cols512]
    exact e _ _ (by dsimp only; omega)
  rw [dif_neg (by omega), dif_neg (by dsimp only; omega), dif_neg (by dsimp only; omega), dif_neg (by dsimp only; omega),
    dif_pos (by dsimp only; omega), zeros]

theorem val37_eq : val_main_v37 (F := Ideal) x0 x1 x2 x3 = part37 (val_main_v26 (F := Ideal) x0 x1 x2 x3) := rfl
theorem val38_eq : val_main_v38 (F := Ideal) x0 x1 x2 x3 = part38 (val_main_v26 (F := Ideal) x0 x1 x2 x3) := rfl
theorem val39_eq : val_main_v39 (F := Ideal) x0 x1 x2 x3 = part39 (val_main_v26 (F := Ideal) x0 x1 x2 x3) := rfl

/-- The projected value of row `n` at column `i`. -/
theorem projRow (n : Fin 16384) (i : Fin 3344) :
    (val_main_v26 (F := Ideal) x0 x1 x2 x3 (ix3 (⟨n.val / 8192, by omega⟩ : Fin 2) (⟨n.val % 8192, by omega⟩ : Fin 8192) i) : EReal)
      = In.val (fun n k => x0 (ix2 n k)) (fun b k => x1 (ix3 b 0 k)) (fun k => x2 (ix1 k)) (fun k i => x3 (ix2 k i)) n i := by
  rw [proj_apply]
  have e : tok (⟨n.val / 8192, by omega⟩ : Fin 2) (⟨n.val % 8192, by omega⟩ : Fin 8192) = n := Fin.ext (by
    show n.val / 8192 * 8192 + n.val % 8192 = n.val; omega)
  rw [e]

end Cert.Reference3Ideal.Read

end
-- ==== Proof.In.lean ====
/-
  The input projection: kernel and reference agree.
-/
module

public import proofs.«01_k».proof.Proof.InRef
public import proofs.«01_k».proof.Proof.Gen.Reference3Ideal.Run
public import proofs.«01_k».proof.Defs

@[expose] public section

set_option maxRecDepth 16384

noncomputable section

namespace Cert

open Cert.Kernel3Ideal Cert.Kernel3Ideal.Gen Idealize.ShloMosaic Idealize.ShloMosaic.TcCoe Idealize.SL.Sem

variable (m : (ℓ : Loc nD τ sig) → Buf (Elt Ideal) ℓ)

theorem in37 (c : Dev nD) : Reference3Ideal.Read.val_main_v37 (F := Ideal) (m ((c : Thread nD τ).loc main_arg0)) (m ((c : Thread nD τ).loc main_arg1))
    (m ((c : Thread nD τ).loc main_arg2)) (m ((c : Thread nD τ).loc main_arg3)) = Kernel3Ideal.Value.res5 m c := by
  rw [Reference3Ideal.Read.val37_eq]
  funext y
  obtain ⟨n, j, rfl⟩ : ∃ (n : Fin 16384) (j : Fin 896), y = ix2 n j := ⟨y 0, y 1, by funext a; match a with | ⟨0, _⟩ => rfl | ⟨1, _⟩ => rfl⟩
  rw [Reference3Ideal.Read.part37_apply]
  simp only [Reference3Ideal.Read.projRow]
  exact congrArg (In.pick _) (Fin.ext (show j.val = 0 + j.val by omega))

theorem in38 (c : Dev nD) : Reference3Ideal.Read.val_main_v38 (F := Ideal) (m ((c : Thread nD τ).loc main_arg0)) (m ((c : Thread nD τ).loc main_arg1))
    (m ((c : Thread nD τ).loc main_arg2)) (m ((c : Thread nD τ).loc main_arg3)) = Kernel3Ideal.Value.res6 m c := by
  rw [Reference3Ideal.Read.val38_eq]
  funext y
  obtain ⟨n, j, rfl⟩ : ∃ (n : Fin 16384) (j : Fin 1024), y = ix2 n j := ⟨y 0, y 1, by funext a; match a with | ⟨0, _⟩ => rfl | ⟨1, _⟩ => rfl⟩
  rw [Reference3Ideal.Read.part38_apply, Reference3Ideal.Read.projRow]
  exact (In.pick_tail _ _ (show 896 ≤ 896 + j.val by omega) (show (784 + j.val) = 896 + j.val - 112 by omega)).symm

theorem in39 (c : Dev nD) : Reference3Ideal.Read.val_main_v39 (F := Ideal) (m ((c : Thread nD τ).loc main_arg0)) (m ((c : Thread nD τ).loc main_arg1))
    (m ((c : Thread nD τ).loc main_arg2)) (m ((c : Thread nD τ).loc main_arg3)) = Kernel3Ideal.Value.res7 m c := by
  rw [Reference3Ideal.Read.val39_eq]
  funext y
  obtain ⟨n, j, rfl⟩ : ∃ (n : Fin 16384) (j : Fin 1536), y = ix2 n j := ⟨y 0, y 1, by funext a; match a with | ⟨0, _⟩ => rfl | ⟨1, _⟩ => rfl⟩
  rw [Reference3Ideal.Read.part39_apply, Reference3Ideal.Read.projRow]
  exact (In.pick_tail _ _ (show 896 ≤ 1920 + j.val by omega) (show (1808 + j.val) = 1920 + j.val - 112 by omega)).symm

/-- The input projection's kernel and the reference end with the same three result arrays. -/
theorem inproj : Cert.algebraic_Kernel3Ideal_Reference3Ideal := by
  intro m ρ m' ρ' _ hagree
  refine ⟨_, _, _, (θ_run Cert.Kernel3Ideal.defs _ _).mono (fun _ h c => ⟨(h c).1.trans (Kernel3Ideal.Value.final5 m c), (h c).2.1.trans (Kernel3Ideal.Value.final6 m c),
    (h c).2.2.1.trans (Kernel3Ideal.Value.final7 m c), (h c).2.2.2⟩) (Cert.Kernel3Ideal.Value.run_blocks (F := Ideal) m ρ), ?_⟩
  refine (θ_run Cert.Reference3Ideal.defs _ _).mono (fun _ h c => ⟨?_, ?_, ?_, (h c).2.2.2⟩) (Cert.Reference3Ideal.Value.run (F := Ideal) m' ρ')
  · refine (h c).1.trans ((Reference3Ideal.Read.val_main_v37_eq m' c).trans (Eq.trans ?_ (in37 m c)))
    obtain ⟨a0, a1, a2, a3⟩ := hagree c
    rw [← a0, ← a1, ← a2, ← a3]
  · refine (h c).2.1.trans ((Reference3Ideal.Read.val_main_v38_eq _ _ _ _).trans (Eq.trans ?_ (in38 m c)))
    obtain ⟨a0, a1, a2, a3⟩ := hagree c
    rw [← a0, ← a1, ← a2, ← a3]
  · refine (h c).2.2.1.trans ((Reference3Ideal.Read.val_main_v39_eq _ _ _ _).trans (Eq.trans ?_ (in39 m c)))
    obtain ⟨a0, a1, a2, a3⟩ := hagree c
    rw [← a0, ← a1, ← a2, ← a3]

end Cert

end
-- ==== Proof.SbMath.lean ====
/-
  Stick-breaking weights over the extended reals: the kernel's base-two form and the reference's form are the same numbers.
-/
module

public import Idealize.ShloMosaic.Lib.IdealHost

@[expose] public section

noncomputable section

namespace Cert.Sb

open Idealize.ShloMosaic

/-- `log (1 + exp x)` in its stable form. -/
def sp (x : EReal) : EReal := max x 0 + Ideal.log1p (Ideal.exp (-(max x (-x))))

/-- The same in base two: `log2 (1 + 2 ^ z)`. -/
def keep (z : EReal) : EReal := max z 0 + Ideal.log (1 + Ideal.exp2 (-(max z (-z)))) * (((Real.log 2)⁻¹ : ℝ) : EReal)

/-- The two at real numbers. -/
def spr (x : ℝ) : ℝ := max x 0 + Real.log (1 + Real.exp (-|x|))
def keepr (z : ℝ) : ℝ := max z 0 + Real.log (1 + Real.rpow 2 (-|z|)) * (Real.log 2)⁻¹

theorem log_two_pos : 0 < Real.log 2 := Real.log_pos (by norm_num)

theorem rpow_two (x : ℝ) : Real.rpow 2 x = Real.exp (Real.log 2 * x) := Real.rpow_def_of_pos (by norm_num) x

theorem spr_mul (z : ℝ) : spr (z * Real.log 2) = Real.log 2 * keepr z := by
  have h := log_two_pos
  unfold spr keepr
  rw [mul_add, rpow_two, abs_mul, abs_of_pos h, mul_max_of_nonneg _ _ h.le, mul_zero, mul_comm (Real.log 2) z]
  have e : Real.log 2 * (Real.log (1 + Real.exp (Real.log 2 * -|z|)) * (Real.log 2)⁻¹) = Real.log (1 + Real.exp (Real.log 2 * -|z|)) := by
    field_simp
  rw [e, show Real.log 2 * -|z| = -(|z| * Real.log 2) by ring]

theorem spr_neg (x : ℝ) : spr (-x) = spr x - x := by
  unfold spr
  rw [abs_neg]
  rcases le_total x 0 with h | h
  · rw [max_eq_left (by linarith), max_eq_right h]; ring
  · rw [max_eq_right (by linarith), max_eq_left h]; ring

theorem keepr_nonneg (z : ℝ) : 0 ≤ keepr z := by
  have hp : 0 < Real.rpow 2 (-|z|) := Real.rpow_pos_of_pos (by norm_num) _
  exact add_nonneg (le_max_right _ _) (mul_nonneg (Real.log_nonneg (by linarith)) (inv_nonneg.2 log_two_pos.le))

theorem coe_max (a b : ℝ) : max (a : EReal) (b : EReal) = ((max a b : ℝ) : EReal) :=
  (EReal.coe_strictMono.monotone.map_max).symm

theorem keep_coe (z : ℝ) : keep (z : EReal) = (keepr z : EReal) := by
  have hp : 0 < Real.rpow 2 (-|z|) := Real.rpow_pos_of_pos (by norm_num) _
  unfold keep
  rw [← EReal.coe_neg, coe_max, ← EReal.coe_neg, Ideal.exp2_coe, ← EReal.coe_one, ← EReal.coe_add, Ideal.log_coe,
    show max z (-z) = |z| from rfl, if_neg (by linarith), ← EReal.coe_zero, coe_max, ← EReal.coe_mul, ← EReal.coe_add]
  rfl

theorem sp_coe (x : ℝ) : sp (x : EReal) = (spr x : EReal) := by
  have hp : 0 < Real.exp (-|x|) := Real.exp_pos _
  unfold sp Ideal.log1p
  rw [← EReal.coe_neg, coe_max, ← EReal.coe_neg, Ideal.exp_coe, ← EReal.coe_one, ← EReal.coe_add, Ideal.log_coe,
    show max x (-x) = |x| from rfl, if_neg (by linarith), ← EReal.coe_zero, coe_max, ← EReal.coe_add]
  rfl

theorem log_one : Ideal.log 1 = 0 := by
  rw [← EReal.coe_one, Ideal.log_coe, if_neg (by norm_num), Real.log_one, EReal.coe_zero]

theorem keep_top : keep ⊤ = ⊤ := by simp [keep, log_one]
theorem keep_bot : keep ⊥ = 0 := by simp [keep, log_one]
theorem sp_top : sp ⊤ = ⊤ := by simp [sp, Ideal.log1p, log_one]
theorem sp_bot : sp ⊥ = 0 := by simp [sp, Ideal.log1p, log_one]

theorem keep_nonneg (z : EReal) : 0 ≤ keep z := by
  induction z with
  | bot => rw [keep_bot]
  | top => rw [keep_top]; exact le_top
  | coe z => rw [keep_coe]; exact EReal.coe_nonneg.2 (keepr_nonneg z)

theorem sp_mul (Z : EReal) : sp (Z * (Real.log 2 : ℝ)) = (Real.log 2 : ℝ) * keep Z := by
  induction Z with
  | bot => rw [EReal.bot_mul_coe_of_pos log_two_pos, sp_bot, keep_bot, mul_zero]
  | top => rw [EReal.top_mul_coe_of_pos log_two_pos, sp_top, keep_top, EReal.coe_mul_top_of_pos log_two_pos]
  | coe z => rw [← EReal.coe_mul, sp_coe, keep_coe, spr_mul, EReal.coe_mul]

/-- Taking two nonnegative numbers away one by one. -/
theorem sub_sub_nonneg (z a b : EReal) (ha : 0 ≤ a) (hb : 0 ≤ b) : z - a - b = z - (a + b) := by
  rw [sub_eq_add_neg, sub_eq_add_neg, sub_eq_add_neg, EReal.neg_add (.inl (ne_bot_of_le_ne_bot EReal.zero_ne_bot ha)) (.inr (ne_bot_of_le_ne_bot EReal.zero_ne_bot hb)),
    sub_eq_add_neg, add_assoc]

/-! ## One row: scores `Z` by key, the row's own position `R` -/

/-- What key `C` keeps, in base two: nothing from the row's own position on. -/
def kap (R : ℕ) (Z : ℕ → EReal) (C : ℕ) : EReal := if C < R then keep (Z C) else 0

/-- The kept logs from key `C` up to the end. -/
def rest (R : ℕ) (Z : ℕ → EReal) (C : ℕ) : EReal := ∑ c ∈ Finset.Ico C 8192, kap R Z c

/-- The weight of key `C`. -/
def wt (R : ℕ) (Z : ℕ → EReal) (C : ℕ) : EReal := if C < R then Ideal.exp2 (Z C - rest R Z C) else 0

theorem kap_nonneg (R : ℕ) (Z : ℕ → EReal) (C : ℕ) : 0 ≤ kap R Z C := by
  unfold kap
  split
  · exact keep_nonneg _
  · exact le_rfl

/-- A row's weight from natural logs, in the order the reference takes them: `K` is the key's own kept log, `L` those behind it. -/
theorem weight_of_logs (Z L : EReal) (hL : 0 ≤ L) :
    Ideal.exp (-sp (-(Z * (Real.log 2 : ℝ))) + (-((Real.log 2 : ℝ) * (keep Z + L)) - -((Real.log 2 : ℝ) * keep Z))) = Ideal.exp2 (Z - (keep Z + L)) := by
  have h := log_two_pos
  induction Z with
  | bot => rw [EReal.bot_mul_coe_of_pos h, EReal.neg_bot, sp_top, EReal.neg_top, EReal.bot_add, EReal.bot_sub, Ideal.exp_bot, Ideal.exp2_bot]
  | top =>
    rw [keep_top, EReal.top_add_of_ne_bot (ne_bot_of_le_ne_bot EReal.zero_ne_bot hL), EReal.coe_mul_top_of_pos h, EReal.neg_top, EReal.bot_sub, EReal.add_bot,
      EReal.sub_top, Ideal.exp_bot, Ideal.exp2_bot]
  | coe z =>
    rw [keep_coe]
    induction L with
    | bot => simp at hL
    | top => rw [EReal.coe_add_top, EReal.coe_mul_top_of_pos h, EReal.neg_top, EReal.bot_sub, EReal.add_bot, EReal.sub_top, Ideal.exp_bot, Ideal.exp2_bot]
    | coe l =>
      rw [← EReal.coe_mul, ← EReal.coe_neg, sp_coe, spr_neg, spr_mul, ← EReal.coe_add, ← EReal.coe_mul, ← EReal.coe_mul, ← EReal.coe_neg, ← EReal.coe_neg, ← EReal.coe_neg,
        ← EReal.coe_sub, ← EReal.coe_add, ← EReal.coe_sub, Ideal.exp_coe, Ideal.exp2_coe, rpow_two]
      congr 2
      ring

/-- A sum of nonnegative terms, each scaled and negated. -/
theorem sum_neg_mul (f : ℕ → EReal) (hf : ∀ c, 0 ≤ f c) (s : Finset ℕ) : ∑ c ∈ s, -((Real.log 2 : ℝ) * f c) = -((Real.log 2 : ℝ) * ∑ c ∈ s, f c) := by
  classical
  induction s using Finset.induction_on with
  | empty => simp
  | insert a s ha ih =>
    have h0 : ∀ x : EReal, 0 ≤ x → (((Real.log 2 : ℝ) : EReal) * x) ≠ ⊥ := fun x hx =>
      ne_bot_of_le_ne_bot EReal.zero_ne_bot (mul_nonneg (EReal.coe_nonneg.2 log_two_pos.le) hx)
    have hs : 0 ≤ ∑ c ∈ s, f c := Finset.sum_nonneg fun c _ => hf c
    rw [Finset.sum_insert ha, Finset.sum_insert ha, ih, EReal.left_distrib_of_nonneg (hf a) hs, EReal.neg_add (.inl (h0 _ (hf a))) (.inr (h0 _ hs)), sub_eq_add_neg]

/-- Keys from the row's position on keep nothing, so the kept logs may stop anywhere behind it. -/
theorem rest_eq (R : ℕ) (Z : ℕ → EReal) (C N : ℕ) (hR : R ≤ N) (hN : N ≤ 8192) : rest R Z C = ∑ c ∈ Finset.Ico C N, kap R Z c := by
  unfold rest
  symm
  apply Finset.sum_subset (Finset.Ico_subset_Ico le_rfl hN)
  intro c h1 h2
  rw [Finset.mem_Ico] at h1 h2
  exact if_neg (by omega)

/-- A tile's strictly later keys, then the key itself, then everything behind the tile. -/
theorem tile_tail (f : ℕ → EReal) (j N : ℕ) (hN : 256 * (j + 1) ≤ N) (c : Fin 256) :
    f (256 * j + c.val) + ∑ d : Fin 256, f (256 * j + d.val) * (if c.val < d.val then 1 else 0) + ∑ C ∈ Finset.Ico (256 * (j + 1)) N, f C
      = ∑ C ∈ Finset.Ico (256 * j + c.val) N, f C := by
  have hc := c.isLt
  have h1 : ∑ d : Fin 256, f (256 * j + d.val) * (if c.val < d.val then 1 else 0) = ∑ C ∈ Finset.Ico (256 * j + c.val + 1) (256 * (j + 1)), f C := by
    rw [Fin.sum_univ_eq_sum_range (fun d => f (256 * j + d) * (if c.val < d then 1 else 0)) 256]
    simp only [mul_ite, mul_one, mul_zero]
    rw [← Finset.sum_filter, show (Finset.range 256).filter (fun d => c.val < d) = Finset.Ico (c.val + 1) 256 from Finset.ext fun d => by
      rw [Finset.mem_filter, Finset.mem_range, Finset.mem_Ico]; omega, Finset.sum_Ico_add f (c.val + 1) 256 (256 * j),
      show c.val + 1 + 256 * j = 256 * j + c.val + 1 by omega, show 256 + 256 * j = 256 * (j + 1) by omega]
  rw [h1, Finset.sum_eq_sum_Ico_succ_bot (by omega : 256 * j + c.val < N), ← Finset.sum_Ico_consecutive f (show 256 * j + c.val + 1 ≤ 256 * (j + 1) by omega) hN]
  exact add_assoc _ _ _

end Cert.Sb

end
-- ==== Proof.SbTile.lean ====
/-
  One tile of the stick-breaking kernel at an element: the scores, the kept logs, the exponents and the tile's totals,
  from its scores.
-/
module

public import proofs.«01_k».proof.Proof.Gen.Kernel4Ideal.Value
public import proofs.«01_k».proof.Proof.SbMath
public import Idealize.ShloMosaic.Lib.Pointwise
public import Idealize.ShloMosaic.Lib.WordCmp

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Sb

theorem named_val : (Named.named (F := Ideal) κ "inv_log_two" 0x3FB8AA3B#32 : Ideal .f32) = (((Real.log 2)⁻¹ : ℝ) : EReal) := rfl

/-- A choice by a comparison of two small counts. -/
theorem sel_lt {α : Type} (n m : ℕ) (hn : n < 2 ^ 31) (hm : m < 2 ^ 31) (a b : α) :
    Scalar.select (IntOp.cmpi .slt (BitVec.ofNat 32 n) (BitVec.ofNat 32 m)) a b = if n < m then a else b := by
  rw [WordCmp.cmpi_slt_ofNat hn hm]
  by_cases h : n < m <;> simp [Scalar.select, h]

/-- The first pass of the loop has no pending tile. -/
theorem valid_eq : ∀ n : Fin 64, Scalar.cmpi .sge (Scf.iv 0#32 1#32 n.val) 1#32 = if 1 ≤ n.val then 1#1 else 0#1 := by decide +kernel

/-- A sum over a tile's keys, half by half. -/
theorem half_sum (f : Fin 256 → EReal) :
    ∑ x : Fin 128, f ⟨x.val, by omega⟩ + ∑ x : Fin 128, f ⟨128 + x.val, by omega⟩ = ∑ c, f c :=
  (Fin.sum_univ_add (a := 128) (b := 128) f).symm

/-- The loop makes one trip per tile up to the diagonal one. -/
theorem trips_eq : ∀ a : Fin 32, Scf.trips 0#32 (Scalar.addi 0#32 (Scalar.muli (Scalar.divsi (Scalar.subi (Scalar.addi (BitVec.ofNat 32 a.val) 1#32) 0#32) 1#32) 1#32)) 1#32 = a.val + 1 := by
  decide +kernel

theorem trips1 (i : grid0.Coords) : (k0_t1_loop i).trips = (i 2).val + 1 := trips_eq (i 2)

theorem i2_lt (i : grid0.Coords) : (i 2).val < 32 := (i 2).isLt

/-- The table of the cumulative sums: keys behind, then all ones. -/
def IsCum (v : Vec Ideal S256x384 .bf16) : Prop :=
  (∀ c' c : Fin 256, (v (ix2 c' ⟨c.val, by omega⟩) : EReal) = if c.val < c'.val then 1 else 0) ∧
    ∀ (c' : Fin 256) (l : Fin 128), (v (ix2 c' ⟨256 + l.val, by omega⟩) : EReal) = 1

theorem score_apply (a b : Vec Ideal S256x128 .bf16) (r c : Fin 256) :
    (k0_pay20 a b (ix2 r c) : EReal) = ∑ d : Fin 128, a (ix2 r d) * b (ix2 c d) := by
  pointwise [k0_pay20]

theorem keep_apply (a b : Vec Ideal S256x128 .bf16) (r c : Fin 256) (z : EReal) (hz : (k0_pay20 a b (ix2 r c) : EReal) = z) :
    (k0_pay21 a b (ix2 r c) : EReal) = keep z := by
  rw [← hz]
  unfold keep
  generalize hp : k0_pay20 a b = p
  unfold k0_pay21
  rw [hp, named_val]
  pointwise
  rw [zero_sub]
  rfl

theorem cum_apply (v : Vec Ideal S256x384 .bf16) (a b : Vec Ideal S256x128 .bf16) (r : Fin 256) (n : Fin 384) :
    (k0_pay22 v a b (ix2 r n) : EReal) = ∑ c : Fin 256, k0_pay21 a b (ix2 r c) * v (ix2 c n) := by
  generalize hp : k0_pay21 a b = p
  unfold k0_pay22
  rw [hp]
  pointwise

theorem part_eq (v : Vec Ideal S256x384 .bf16) (a b : Vec Ideal S256x128 .bf16) (r c : Fin 256) :
    (k0_pay23 v a b (ix2 r c) : EReal) = k0_pay20 a b (ix2 r c) - k0_pay21 a b (ix2 r c) - k0_pay22 v a b (ix2 r ⟨c.val, by omega⟩) := by
  unfold k0_pay23
  generalize k0_pay21 a b = p
  generalize k0_pay20 a b = q
  generalize k0_pay22 v a b = s
  pointwise

theorem tot_eq (v : Vec Ideal S256x384 .bf16) (a b : Vec Ideal S256x128 .bf16) (r : Fin 256) (l : Fin 128) :
    (k0_pay24 v a b (ix2 r l) : EReal) = k0_pay22 v a b (ix2 r ⟨256 + l.val, by omega⟩) := by
  unfold k0_pay24
  generalize k0_pay22 v a b = s
  pointwise

theorem mask_apply (r c : Fin 256) : k0_pay41 (ix2 r c) = if c.val < r.val then 1#1 else 0#1 := by
  pointwise [k0_pay41]
  rw [WordCmp.cmpi_slt_ofNat (by omega) (by omega)]
  by_cases h : c.val < r.val <;> simp [h]

theorem pay15_apply (a b : FVec Ideal S256x128 .f32) (r : Fin 256) (l : Fin 128) :
    (k0_pay15 a b (ix2 r l) : EReal) = if l.val < 64 then a (ix2 r l) else b (ix2 r l) := by
  pointwise [k0_pay15]
  exact sel_lt l.val 64 (by omega) (by omega) _ _

theorem pay54_apply (p : FVec Ideal S256x256 .f32) (v : Vec Ideal S256x128 .bf16) (r : Fin 256) (l : Fin 128) :
    (k0_pay54 k0_pay41 (k0_pay42 (F := Ideal)) k0_pay43 p v (ix2 r l) : EReal)
      = ∑ c : Fin 256, (if c.val < r.val then Ideal.exp2 (p (ix2 r c)) else 0) * v (ix2 c l) := by
  pointwise [k0_pay54, k0_pay42, k0_pay43, k0_pay41]
  refine (half_sum fun x => Scalar.select (IntOp.cmpi .slt (BitVec.ofNat 32 x.val) (BitVec.ofNat 32 r.val)) (FloatOps.exp2 (p (ix2 r x)) * v (ix2 x l)) (0 : EReal)).trans ?_
  refine Finset.sum_congr rfl fun x _ => ?_
  rw [sel_lt x.val r.val (by omega) (by omega)]
  by_cases h : x.val < r.val
  · rw [if_pos h, if_pos h]; rfl
  · rw [if_neg h, if_neg h, zero_mul]

theorem pay55_apply (p : FVec Ideal S256x128 .f32) (r : Fin 256) (l : Fin 128) :
    (k0_pay55 (k0_pay43 (F := Ideal)) p (ix2 r l) : EReal) = p (ix2 r l) := by
  pointwise [k0_pay55, k0_pay43]

theorem pay16_apply (i : grid0.Coords) (n : Fin (k0_t1_loop i).trips) (acc tot : FVec Ideal S256x128 .f32) (p : Vec Ideal S1x256x256 .f32)
    (v : Vec Ideal S256x128 .bf16) (r : Fin 256) (l : Fin 128) :
    (k0_pay16 i 0#32 1#32 n acc tot p v (ix2 r l) : EReal) = acc (ix2 r l) + if 1 ≤ n.val then
      ∑ c : Fin 256, Ideal.exp2 (p (ix3 0 r c) - tot (ix2 r ⟨c.val % 128, by omega⟩)) * v (ix2 c l) else 0 := by
  have hn : n.val < 64 := by have := trips1 i; have := i2_lt i; have := n.isLt; omega
  pointwise [k0_pay16]
  rw [valid_eq ⟨n.val, hn⟩]
  congr 1
  by_cases h : 1 ≤ n.val
  · rw [if_pos h, if_pos h]
    refine Eq.trans ?_ (half_sum fun c => Ideal.exp2 (p (ix3 0 r c) - tot (ix2 r ⟨c.val % 128, by omega⟩)) * v (ix2 c l))
    refine (congrArg₂ (· + ·) (Finset.sum_congr rfl fun x _ => ?_) (Finset.sum_congr rfl fun x _ => ?_))
    · rw [show (⟨x.val % 128, by omega⟩ : Fin 128) = x from Fin.ext (by dsimp only; omega)]; rfl
    · rw [show (⟨(128 + x.val) % 128, by omega⟩ : Fin 128) = x from Fin.ext (by dsimp only; omega)]; rfl
  · rw [if_neg h, if_neg h]; rfl

theorem pay17_apply (i : grid0.Coords) (n : Fin (k0_t1_loop i).trips) (tot : FVec Ideal S256x128 .f32) (p : Vec Ideal S1x256x128 .f32)
    (r : Fin 256) (l : Fin 128) :
    (k0_pay17 i 0#32 1#32 n tot p (ix2 r l) : EReal) = tot (ix2 r l) + if 1 ≤ n.val then p (ix3 0 r l) else 0 := by
  have hn : n.val < 64 := by have := trips1 i; have := i2_lt i; have := n.isLt; omega
  pointwise [k0_pay17]
  rw [valid_eq ⟨n.val, hn⟩]
  by_cases h : 1 ≤ n.val
  · rw [if_pos h, if_pos h]; rfl
  · rw [if_neg h, if_neg h]; rfl

/-- A tile's exponents from its scores. -/
theorem part_real (v : Vec Ideal S256x384 .bf16) (hv : IsCum v) (a b : Vec Ideal S256x128 .bf16) (r : Fin 256) (z : Fin 256 → EReal)
    (hz : ∀ c, (k0_pay20 a b (ix2 r c) : EReal) = z c) (c : Fin 256) :
    (k0_pay23 v a b (ix2 r c) : EReal)
      = ((z c - keep (z c) - ∑ d : Fin 256, keep (z d) * (if c.val < d.val then 1 else 0) : EReal)) := by
  rw [part_eq, cum_apply, hz c, keep_apply a b r c (z c) (hz c)]
  congr 1
  refine Finset.sum_congr rfl fun d _ => ?_
  rw [keep_apply a b r d (z d) (hz d), hv.1 d c]

/-- A tile's total from its scores. -/
theorem tot_real (v : Vec Ideal S256x384 .bf16) (hv : IsCum v) (a b : Vec Ideal S256x128 .bf16) (r : Fin 256) (z : Fin 256 → EReal)
    (hz : ∀ c, (k0_pay20 a b (ix2 r c) : EReal) = z c) (l : Fin 128) :
    (k0_pay24 v a b (ix2 r l) : EReal) = ((∑ d : Fin 256, keep (z d) : EReal)) := by
  rw [tot_eq, cum_apply]
  refine Finset.sum_congr rfl fun d _ => ?_
  rw [keep_apply a b r d (z d) (hz d), hv.2 d l, mul_one]

/-- The diagonal tile masks the kept logs of the unmasked tile. -/
theorem diag_keep_eq (a b : Vec Ideal S256x128 .bf16) (r c : Fin 256) :
    (k0_pay47 a b (ix2 r c) : EReal) = if c.val < r.val then k0_pay21 a b (ix2 r c) else 0 := by
  have h : k0_pay47 a b = select k0_pay41 (k0_pay21 a b) (broadcast S256x256 (Scalar.ofBits .f32 0x00000000#32 : Ideal .f32)) := rfl
  rw [h]
  generalize k0_pay21 a b = p
  pointwise
  rw [mask_apply]
  by_cases h : c.val < r.val
  · rw [if_pos h, if_pos h]; rfl
  · rw [if_neg h, if_neg h]; rfl

theorem diag_cum_apply (v : Vec Ideal S256x384 .bf16) (a b : Vec Ideal S256x128 .bf16) (r : Fin 256) (n : Fin 384) :
    (k0_pay48 v a b (ix2 r n) : EReal) = ∑ c : Fin 256, k0_pay47 a b (ix2 r c) * v (ix2 c n) := by
  generalize hp : k0_pay47 a b = p
  unfold k0_pay48
  rw [hp]
  pointwise [k0_pay40]

theorem diag_part_eq (v : Vec Ideal S256x384 .bf16) (a b : Vec Ideal S256x128 .bf16) (r c : Fin 256) :
    (k0_pay49 v a b (ix2 r c) : EReal) = k0_pay20 a b (ix2 r c) - k0_pay47 a b (ix2 r c) - k0_pay48 v a b (ix2 r ⟨c.val, by omega⟩) := by
  have h : k0_pay46 a b = k0_pay20 a b := rfl
  unfold k0_pay49
  rw [h]
  generalize k0_pay47 a b = p
  generalize k0_pay20 a b = q
  generalize k0_pay48 v a b = s
  pointwise

theorem diag_tot_eq (v : Vec Ideal S256x384 .bf16) (a b : Vec Ideal S256x128 .bf16) (r : Fin 256) (l : Fin 128) :
    (k0_pay50 v a b (ix2 r l) : EReal) = k0_pay48 v a b (ix2 r ⟨256 + l.val, by omega⟩) := by
  unfold k0_pay50
  generalize k0_pay48 v a b = s
  pointwise

/-- The kept log of a diagonal tile's key: nothing from the row's own key on. -/
def dkeep (z : Fin 256 → EReal) (r c : Fin 256) : EReal := if c.val < r.val then keep (z c) else 0

theorem diag_keep_real (a b : Vec Ideal S256x128 .bf16) (r : Fin 256) (z : Fin 256 → EReal)
    (hz : ∀ c, (k0_pay20 a b (ix2 r c) : EReal) = z c) (c : Fin 256) : (k0_pay47 a b (ix2 r c) : EReal) = dkeep z r c := by
  rw [diag_keep_eq, keep_apply a b r c (z c) (hz c)]
  rfl

theorem diag_part_real (v : Vec Ideal S256x384 .bf16) (hv : IsCum v) (a b : Vec Ideal S256x128 .bf16) (r : Fin 256) (z : Fin 256 → EReal)
    (hz : ∀ c, (k0_pay20 a b (ix2 r c) : EReal) = z c) (c : Fin 256) :
    (k0_pay49 v a b (ix2 r c) : EReal)
      = ((z c - dkeep z r c - ∑ d : Fin 256, dkeep z r d * (if c.val < d.val then 1 else 0) : EReal)) := by
  rw [diag_part_eq, diag_cum_apply, hz c, diag_keep_real a b r z hz c]
  congr 1
  refine Finset.sum_congr rfl fun d _ => ?_
  rw [diag_keep_real a b r z hz d, hv.1 d c]

theorem diag_tot_real (v : Vec Ideal S256x384 .bf16) (hv : IsCum v) (a b : Vec Ideal S256x128 .bf16) (r : Fin 256) (z : Fin 256 → EReal)
    (hz : ∀ c, (k0_pay20 a b (ix2 r c) : EReal) = z c) (l : Fin 128) :
    (k0_pay50 v a b (ix2 r l) : EReal) = ((∑ d : Fin 256, dkeep z r d : EReal)) := by
  rw [diag_tot_eq, diag_cum_apply]
  refine Finset.sum_congr rfl fun d _ => ?_
  rw [diag_keep_real a b r z hz d, hv.2 d l, mul_one]

end Cert.Kernel4Ideal.Value

end
-- ==== Proof.SbFold.lean ====
/-
  The walk over the key tiles of one head of one query block: what the accumulator, the running total and the pending
  tile hold after every trip, as sums over the keys done.
-/
module

public import proofs.«01_k».proof.Proof.SbTile

@[expose] public section

set_option maxRecDepth 16384

noncomputable section

namespace Cert.Sb

open Idealize.ShloMosaic Cert.Kernel4Ideal.Value

/-- A sum over keys grows by a tile. -/
theorem tile_grow (f : ℕ → EReal) (j N : ℕ) (hN : 256 * (j + 1) ≤ N) :
    ∑ C ∈ Finset.Ico (256 * (j + 1)) N, f C + ∑ d : Fin 256, f (256 * j + d.val) = ∑ C ∈ Finset.Ico (256 * j) N, f C := by
  rw [Fin.sum_univ_eq_sum_range (fun d => f (256 * j + d)) 256, ← Finset.sum_Ico_consecutive f (show 256 * j ≤ 256 * (j + 1) by omega) hN,
    Finset.sum_Ico_eq_sum_range f (256 * j), show 256 * (j + 1) - 256 * j = 256 by omega, add_comm]

/-- The first key done after `n` trips in query block `a`: the diagonal tile before the loop, the first trip adds none. -/
def lo (a n : ℕ) : ℕ := 256 * (a + 1 - max n 1)

/-- The exponent of key `c` of tile `j`, less what later tiles keep. -/
def part (Z : ℕ → EReal) (j c : ℕ) : EReal :=
  Z (256 * j + c) - keep (Z (256 * j + c)) - ∑ d : Fin 256, keep (Z (256 * j + d.val)) * (if c < d.val then 1 else 0)

/-- What one head's state holds after `n` trips in query block `a`. -/
structure Holds (a : ℕ) (Z : Fin 256 → ℕ → EReal) (V : ℕ → Fin 128 → EReal) (n : ℕ)
    (acc run : Fin 256 → Fin 128 → EReal) (p8 : Fin 256 → Fin 256 → EReal) (p9 : Fin 256 → Fin 128 → EReal) : Prop where
  acc : ∀ r l, acc r l = ∑ C ∈ Finset.Ico (lo a n) (256 * (a + 1)), (wt (256 * a + r.val) (Z r) C : EReal) * V C l
  run : ∀ r l, run r l = ((∑ C ∈ Finset.Ico (lo a n) (256 * (a + 1)), kap (256 * a + r.val) (Z r) C : EReal))
  pend : 1 ≤ n → n ≤ a → ∀ r c, p8 r c = (part (Z r) (a - n) c.val : EReal)
  pendT : 1 ≤ n → n ≤ a → ∀ r l, p9 r l = ((∑ d : Fin 256, keep (Z r (256 * (a - n) + d.val)) : EReal))

/-- The later keys of a tile add up to a nonnegative number. -/
theorem later_nonneg (f : Fin 256 → EReal) (hf : ∀ d, 0 ≤ f d) (c : Fin 256) : 0 ≤ ∑ d : Fin 256, f d * (if c.val < d.val then 1 else 0) :=
  Finset.sum_nonneg fun d _ => mul_nonneg (hf d) (by split <;> simp)

/-- The weight of a key of a tile before the diagonal one, from its exponent and what later tiles keep. -/
theorem wt_tile (a j : ℕ) (ha : a < 32) (hj : j < a) (r c : Fin 256) (Z : ℕ → EReal) :
    Ideal.exp2 ((part Z j c.val : EReal) - ((∑ C ∈ Finset.Ico (256 * (j + 1)) (256 * (a + 1)), kap (256 * a + r.val) Z C : EReal)))
      = (wt (256 * a + r.val) Z (256 * j + c.val) : EReal) := by
  have hr := r.isLt
  have hc := c.isLt
  have hk : ∀ d : Fin 256, kap (256 * a + r.val) Z (256 * j + d.val) = keep (Z (256 * j + d.val)) := fun d => by
    unfold kap; rw [if_pos (by have := d.isLt; omega)]
  unfold wt
  rw [if_pos (by omega), rest_eq (256 * a + r.val) Z (256 * j + c.val) (256 * (a + 1)) (by omega) (by omega),
    ← tile_tail (kap (256 * a + r.val) Z) j (256 * (a + 1)) (by omega) c]
  have h0 : 0 ≤ ∑ d : Fin 256, keep (Z (256 * j + d.val)) * (if c.val < d.val then 1 else 0) := later_nonneg _ (fun _ => keep_nonneg _) c
  unfold part
  rw [sub_sub_nonneg _ _ _ (keep_nonneg _) h0, sub_sub_nonneg _ _ _ (add_nonneg (keep_nonneg _) h0) (Finset.sum_nonneg fun C _ => kap_nonneg _ _ _)]
  simp only [hk]

/-- The weight of a key of the diagonal tile. -/
theorem wt_diag (a : ℕ) (ha : a < 32) (r c : Fin 256) (Z : ℕ → EReal) :
    (if c.val < r.val then Ideal.exp2 ((Z (256 * a + c.val) - dkeep (fun d => Z (256 * a + d.val)) r c
        - ∑ d : Fin 256, dkeep (fun d => Z (256 * a + d.val)) r d * (if c.val < d.val then 1 else 0) : EReal)) else 0)
      = (wt (256 * a + r.val) Z (256 * a + c.val) : EReal) := by
  have hr := r.isLt
  have hc := c.isLt
  have hk : ∀ d : Fin 256, kap (256 * a + r.val) Z (256 * a + d.val) = dkeep (fun d => Z (256 * a + d.val)) r d := fun d => by
    unfold kap dkeep
    by_cases h : d.val < r.val
    · rw [if_pos h, if_pos (by omega)]
    · rw [if_neg h, if_neg (by omega)]
  unfold wt
  by_cases h : c.val < r.val
  · have h0 : 0 ≤ ∑ d : Fin 256, kap (256 * a + r.val) Z (256 * a + d.val) * (if c.val < d.val then 1 else 0) := later_nonneg _ (fun _ => kap_nonneg _ _ _) c
    rw [if_pos h, if_pos (by omega), rest_eq (256 * a + r.val) Z (256 * a + c.val) (256 * (a + 1)) (by omega) (by omega),
      ← tile_tail (kap (256 * a + r.val) Z) a (256 * (a + 1)) (by omega) c]
    simp only [← hk, Finset.Ico_self, Finset.sum_empty, add_zero]
    rw [sub_sub_nonneg _ _ _ (kap_nonneg _ _ _) h0]
  · rw [if_neg h, if_neg (by omega)]

/-- What the diagonal tile keeps. -/
theorem diag_total (a : ℕ) (ha : a < 32) (r : Fin 256) (Z : ℕ → EReal) :
    ∑ d : Fin 256, dkeep (fun d => Z (256 * a + d.val)) r d = ∑ C ∈ Finset.Ico (256 * a) (256 * (a + 1)), kap (256 * a + r.val) Z C := by
  rw [← tile_grow (kap (256 * a + r.val) Z) a (256 * (a + 1)) (by omega), Finset.Ico_self, Finset.sum_empty, zero_add]
  refine Finset.sum_congr rfl fun d _ => ?_
  unfold kap dkeep
  by_cases h : d.val < r.val
  · rw [if_pos h, if_pos (by omega)]
  · rw [if_neg h, if_neg (by omega)]

/-- One trip. -/
theorem Holds.step (a n : ℕ) (ha : a < 32) (hn : n ≤ a) (Z : Fin 256 → ℕ → EReal) (V : ℕ → Fin 128 → EReal)
    {acc run acc' run' : Fin 256 → Fin 128 → EReal} {p8 p8' : Fin 256 → Fin 256 → EReal} {p9 p9' : Fin 256 → Fin 128 → EReal}
    (H : Holds a Z V n acc run p8 p9)
    (hacc : ∀ r l, acc' r l = acc r l + if 1 ≤ n then
      ∑ c : Fin 256, Ideal.exp2 (p8 r c - run r ⟨c.val % 128, by omega⟩) * V (256 * (a - n) + c.val) l else 0)
    (hrun : ∀ r l, run' r l = run r l + if 1 ≤ n then p9 r l else 0)
    (h8 : ∀ r c, p8' r c = (part (Z r) (a - 1 - n) c.val : EReal))
    (h9 : ∀ r l, p9' r l = ((∑ d : Fin 256, keep (Z r (256 * (a - 1 - n) + d.val)) : EReal))) :
    Holds a Z V (n + 1) acc' run' p8' p9' := by
  have hlo : 1 ≤ n → lo a n = 256 * (a - n + 1) ∧ lo a (n + 1) = 256 * (a - n) := fun h => by
    unfold lo; constructor <;> omega
  have hlo0 : ¬ 1 ≤ n → lo a (n + 1) = lo a n := fun h => by
    unfold lo; congr 1; omega
  refine ⟨fun r l => ?_, fun r l => ?_, fun _ hn' r c => ?_, fun _ hn' r l => ?_⟩
  · rw [hacc, H.acc]
    by_cases h : 1 ≤ n
    · rw [if_pos h, (hlo h).1, (hlo h).2, ← tile_grow _ (a - n) (256 * (a + 1)) (by omega)]
      congr 1
      refine Finset.sum_congr rfl fun c _ => ?_
      rw [H.pend h hn, H.run, (hlo h).1, wt_tile a (a - n) ha (by omega) r c (Z r)]
    · rw [if_neg h, hlo0 h, add_zero]
  · rw [hrun, H.run]
    by_cases h : 1 ≤ n
    · rw [if_pos h, (hlo h).1, (hlo h).2, H.pendT h hn, ← tile_grow _ (a - n) (256 * (a + 1)) (by omega)]
      congr 1
      refine Finset.sum_congr rfl fun d _ => ?_
      unfold kap
      rw [if_pos (by have := d.isLt; omega)]
    · rw [if_neg h, hlo0 h, add_zero]
  · rw [h8, show a - 1 - n = a - (n + 1) by omega]
  · rw [h9, show a - 1 - n = a - (n + 1) by omega]

/-- Before the loop: the diagonal tile. -/
theorem Holds.start (a : ℕ) (ha : a < 32) (Z : Fin 256 → ℕ → EReal) (V : ℕ → Fin 128 → EReal)
    {acc run : Fin 256 → Fin 128 → EReal} {p8 : Fin 256 → Fin 256 → EReal} {p9 : Fin 256 → Fin 128 → EReal}
    (hacc : ∀ r l, acc r l = ∑ c : Fin 256, (if c.val < r.val then Ideal.exp2 ((Z r (256 * a + c.val) - dkeep (fun d => Z r (256 * a + d.val)) r c
        - ∑ d : Fin 256, dkeep (fun d => Z r (256 * a + d.val)) r d * (if c.val < d.val then 1 else 0) : EReal)) else 0) * V (256 * a + c.val) l)
    (hrun : ∀ r l, run r l = ((∑ d : Fin 256, dkeep (fun d => Z r (256 * a + d.val)) r d : EReal))) :
    Holds a Z V 0 acc run p8 p9 := by
  have hlo : lo a 0 = 256 * a := by unfold lo; omega
  refine ⟨fun r l => ?_, fun r l => ?_, fun h => absurd h (by omega), fun h => absurd h (by omega)⟩
  · rw [hacc, hlo, ← tile_grow _ a (256 * (a + 1)) le_rfl, Finset.Ico_self, Finset.sum_empty, zero_add]
    refine Finset.sum_congr rfl fun c _ => ?_
    rw [wt_diag a ha r c (Z r)]
  · rw [hrun, hlo, diag_total a ha r (Z r)]

/-- After the last trip the accumulator holds the whole weighted sum. -/
theorem Holds.finish (a : ℕ) (ha : a < 32) (Z : Fin 256 → ℕ → EReal) (V : ℕ → Fin 128 → EReal)
    {acc run : Fin 256 → Fin 128 → EReal} {p8 : Fin 256 → Fin 256 → EReal} {p9 : Fin 256 → Fin 128 → EReal}
    (H : Holds a Z V (a + 1) acc run p8 p9) (r : Fin 256) (l : Fin 128) :
    acc r l = ∑ C : Fin 8192, (wt (256 * a + r.val) (Z r) C.val : EReal) * V C.val l := by
  have hlo : lo a (a + 1) = 0 := by unfold lo; omega
  rw [H.acc, hlo, Fin.sum_univ_eq_sum_range (fun C => (wt (256 * a + r.val) (Z r) C : EReal) * V C l) 8192, Finset.range_eq_Ico]
  refine Finset.sum_subset (Finset.Ico_subset_Ico le_rfl (by omega)) fun C h1 h2 => ?_
  rw [Finset.mem_Ico] at h1 h2
  unfold wt
  rw [if_neg (by have := r.isLt; omega), zero_mul]

end Cert.Sb

end
-- ==== Proof.SbTrip.lean ====
/-
  One trip of the stick-breaking kernel's loop over earlier key tiles, as a step of the walk each of its two heads makes.
-/
module

public import proofs.«01_k».proof.Proof.SbFold
public import Idealize.ShloMosaic.Lib.WritesUnit
public import Idealize.ShloMosaic.Lib.WholeRead

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Sb

/-- A load of a block of a whole matrix. -/
theorem load2 {A B a b : ℕ} {e : EltTy} {m : Memref sig .tc .vmem ⟨2, ![A, B]⟩ e} (h : m.IsWhole) (X : (⟨2, ![A, B]⟩ : Shape).Idx → Elt Ideal e)
    (off : Fin 2 → ℕ) (inb : ∀ x, off x + (![a, b] : Fin 2 → ℕ) x ≤ (⟨2, ![A, B]⟩ : Shape).size x) (o0 o1 : ℕ) (hoff : off = ![o0, o1])
    (r : Fin a) (c : Fin b) (h0 : o0 + r.val < A) (h1 : o1 + c.val < B) :
    m.view.readAt (Elt Ideal) (Rect.unit (s := ⟨2, ![A, B]⟩) off ![a, b] inb).toLoadRect (h.unread X) (ix2 r c) = X (ix2 ⟨o0 + r.val, h0⟩ ⟨o1 + c.val, h1⟩) := by
  subst hoff
  rw [View.readAt_eq_ld, h.read_unread]
  refine congrArg X (funext fun x => Fin.ext ?_)
  match x with
  | ⟨0, _⟩ => show o0 + 1 * r.val = o0 + r.val; omega
  | ⟨1, _⟩ => show o1 + 1 * c.val = o1 + c.val; omega

/-- A load of one slot of a stack of two. -/
theorem load3 {A B : ℕ} {e : EltTy} (m : Memref sig .tc .vmem ⟨3, ![2, A, B]⟩ e) (f : BufTy.Contents (Elt Ideal) m.view.ty)
    (u : Fin 2) (o : ℕ) (ho : o = u.val) (inb : ∀ x, (![o, 0, 0] : Fin 3 → ℕ) x + (![1, A, B] : Fin 3 → ℕ) x ≤ (⟨3, ![2, A, B]⟩ : Shape).size x)
    (r : Fin A) (c : Fin B) :
    m.view.readAt (Elt Ideal) (Rect.unit (s := ⟨3, ![2, A, B]⟩) ![o, 0, 0] ![1, A, B] inb).toLoadRect f (ix3 0 r c) = m.view.read (Elt Ideal) f (ix3 u r c) := by
  subst ho
  rw [View.readAt_eq_ld]
  refine congrArg (m.view.read (Elt Ideal) f) (funext fun x => Fin.ext ?_)
  match x with
  | ⟨0, _⟩ => show u.val + 1 * 0 = u.val; omega
  | ⟨1, _⟩ => show 0 + 1 * r.val = r.val; omega
  | ⟨2, _⟩ => show 0 + 1 * c.val = c.val; omega

/-- The stack of two after both its slots are written. -/
theorem store3 {A B : ℕ} {e : EltTy} (m : Memref sig .tc .vmem ⟨3, ![2, A, B]⟩ e) (f : BufTy.Contents (Elt Ideal) m.view.ty)
    (inb0 : ∀ x, (![0, 0, 0] : Fin 3 → ℕ) x + (![1, A, B] : Fin 3 → ℕ) x ≤ (⟨3, ![2, A, B]⟩ : Shape).size x)
    (inb1 : ∀ x, (![1, 0, 0] : Fin 3 → ℕ) x + (![1, A, B] : Fin 3 → ℕ) x ≤ (⟨3, ![2, A, B]⟩ : Shape).size x)
    (w0 w1 : (⟨3, ![1, A, B]⟩ : Shape).Idx → Elt Ideal e) (L : List (View.Piece (Elt Ideal) ⟨3, ![2, A, B]⟩ e)) (u : Fin 2) (r : Fin A) (c : Fin B) :
    m.view.read (Elt Ideal) (m.view.writes (Elt Ideal) f ([⟨Rect.unit (s := ⟨3, ![2, A, B]⟩) ![1, 0, 0] ![1, A, B] inb1, w1⟩,
      ⟨Rect.unit (s := ⟨3, ![2, A, B]⟩) ![0, 0, 0] ![1, A, B] inb0, w0⟩] ++ L)) (ix3 u r c) = if u.val = 0 then w0 (ix3 0 r c) else w1 (ix3 0 r c) := by
  by_cases hu : u.val = 0
  · rw [if_pos hu]
    refine (View.read_writes_cons_unit_of_not_mem m.view f inb1 w1 _ (ix3 u r c) rfl (0 : Fin 3) (Or.inl ?_)).trans ?_
    · show u.val < 1; omega
    · refine View.read_writes_cons_unit_of_mem m.view f inb0 w0 L (ix3 u r c) (ix3 (0 : Fin 1) r c) rfl fun x => ?_
      match x with
      | ⟨0, _⟩ => exact hu
      | ⟨1, _⟩ => exact (Nat.zero_add _).symm
      | ⟨2, _⟩ => exact (Nat.zero_add _).symm
  · rw [if_neg hu]
    refine View.read_writes_cons_unit_of_mem m.view f inb1 w1 _ (ix3 u r c) (ix3 (0 : Fin 1) r c) rfl fun x => ?_
    match x with
    | ⟨0, _⟩ => show u.val = 1; omega
    | ⟨1, _⟩ => exact (Nat.zero_add _).symm
    | ⟨2, _⟩ => exact (Nat.zero_add _).symm

/-! ## Where the loads are -/

theorem word_diag : ∀ a : Fin 32, (Scalar.indexCast (Scalar.muli (BitVec.ofNat 32 a.val) 256#32) : Index).toNat = 256 * a.val := by decide +kernel
theorem word_pend : ∀ (a : Fin 32) (n : Fin 33), (Scalar.indexCast (Scalar.muli (Scalar.maxsi (Scalar.subi (BitVec.ofNat 32 a.val)
    (Scf.iv 0#32 1#32 n.val)) 0#32) 256#32) : Index).toNat = 256 * (a.val - n.val) := by decide +kernel
theorem word_next : ∀ (a : Fin 32) (n : Fin 33), (Scalar.indexCast (Scalar.muli (Scalar.maxsi (Scalar.subi (Scalar.subi (BitVec.ofNat 32 a.val) 1#32)
    (Scf.iv 0#32 1#32 n.val)) 0#32) 256#32) : Index).toNat = 256 * (a.val - 1 - n.val) := by decide +kernel

theorem off1 (i : grid0.Coords) : k0_off1 i = ![256 * (i 2).val, 0] := congrArg (fun x => ![x, 0]) (word_diag (i 2))
theorem off2 (i : grid0.Coords) : k0_off2 i = ![256 * (i 2).val, 128] := congrArg (fun x => ![x, 128]) (word_diag (i 2))
theorem off3 (i : grid0.Coords) : k0_off3 i = ![256 * (i 2).val, 0] := congrArg (fun x => ![x, 0]) (word_diag (i 2))

theorem trip_lt (i : grid0.Coords) (n : Fin (k0_t1_loop i).trips) : n.val < 33 := by
  have := trips1 i; have := i2_lt i; have := n.isLt; omega

theorem off4 (i : grid0.Coords) (n : Fin (k0_t1_loop i).trips) : k0_off4 i n = ![256 * ((i 2).val - n.val), 0] :=
  congrArg (fun x => ![x, 0]) (word_pend (i 2) ⟨n.val, trip_lt i n⟩)
theorem off5 (i : grid0.Coords) (n : Fin (k0_t1_loop i).trips) : k0_off5 i n = ![256 * ((i 2).val - 1 - n.val), 0] :=
  congrArg (fun x => ![x, 0]) (word_next (i 2) ⟨n.val, trip_lt i n⟩)
theorem off6 (i : grid0.Coords) (n : Fin (k0_t1_loop i).trips) : k0_off6 i n = ![256 * ((i 2).val - 1 - n.val), 128] :=
  congrArg (fun x => ![x, 128]) (word_next (i 2) ⟨n.val, trip_lt i n⟩)

/-! ## Scores and values of a block -/

/-- The score of row `r` against key `C`, of the head in lanes `128 u …` of the block. -/
def zOf (x0 : Vec Ideal S256x256 .bf16) (x1 : Vec Ideal S8192x256 .bf16) (u : Fin 2) (r : Fin 256) (C : ℕ) : EReal :=
  if h : C < 8192 then ∑ d : Fin 128, x0 (ix2 r ⟨128 * u.val + d.val, by omega⟩) * x1 (ix2 ⟨C, h⟩ ⟨128 * u.val + d.val, by omega⟩)
  else 0

/-- The values of key `C`. -/
def vOf (x2 : Vec Ideal S8192x128 .bf16) (C : ℕ) (l : Fin 128) : EReal := if h : C < 8192 then x2 (ix2 ⟨C, h⟩ l) else 0

variable (a3 : Memref sig .tc .vmem S256x256 .bf16) (h3 : a3.IsWhole) (a4 : Memref sig .tc .vmem S8192x256 .bf16) (h4 : a4.IsWhole)
  (a5 : Memref sig .tc .vmem S8192x128 .bf16) (h5 : a5.IsWhole) (a6 : Memref sig .tc .vmem S256x384 .bf16) (h6 : a6.IsWhole)
  (a7 : Memref sig .tc .vmem S256x128 .bf16) (h7 : a7.IsWhole) (a8 : Memref sig .tc .vmem S2x256x256 .f32) (h8 : a8.IsWhole)
  (a9 : Memref sig .tc .vmem S2x256x128 .f32) (h9 : a9.IsWhole)
  (x0 : Vec Ideal S256x256 .bf16) (x1 : Vec Ideal S8192x256 .bf16) (x2 : Vec Ideal S8192x128 .bf16)

theorem score_eq (u : Fin 2) (offq offk : Fin 2 → ℕ) (inbq) (inbk) (j : ℕ) (hj : j < 32)
    (hq : offq = ![0, 128 * u.val]) (hk : offk = ![256 * j, 128 * u.val]) (r c : Fin 256) :
    (k0_pay20 (View.readAt (Elt Ideal) a3.view (Rect.unit (s := S256x256) offq S256x128.size inbq).toLoadRect (h3.unread x0))
      (View.readAt (Elt Ideal) a4.view (Rect.unit (s := S8192x256) offk S256x128.size inbk).toLoadRect (h4.unread x1)) (ix2 r c) : EReal)
      = zOf x0 x1 u r (256 * j + c.val) := by
  have hu := u.isLt
  have hc := c.isLt
  have hr := r.isLt
  rw [score_apply]
  unfold zOf
  rw [dif_pos (by omega)]
  refine Finset.sum_congr rfl fun d _ => ?_
  have hd := d.isLt
  refine congrArg₂ (· * ·) ((load2 h3 x0 offq inbq 0 (128 * u.val) hq r d (by omega) (by omega)).trans ?_)
    (load2 h4 x1 offk inbk (256 * j) (128 * u.val) hk c d (by omega) (by omega))
  congr 2
  exact Fin.ext (Nat.zero_add _)

theorem value_apply (offv : Fin 2 → ℕ) (inbv) (j : ℕ) (hj : j < 32) (hv : offv = ![256 * j, 0]) (c : Fin 256) (l : Fin 128) :
    (View.readAt (Elt Ideal) a5.view (Rect.unit (s := S8192x128) offv S256x128.size inbv).toLoadRect (h5.unread x2) (ix2 c l) : EReal)
      = vOf x2 (256 * j + c.val) l := by
  have hc := c.isLt
  unfold vOf
  rw [dif_pos (by omega)]
  refine (load2 h5 x2 offv inbv (256 * j) 0 hv c l (by omega) (by omega)).trans ?_
  congr 2
  exact Fin.ext (Nat.zero_add _)

/-- What both heads' state holds after `n` trips. -/
def Both (i : grid0.Coords) (n : ℕ) (acc : FVec Ideal S256x128 .f32 × FVec Ideal S256x128 .f32 × FVec Ideal S256x128 .f32 × FVec Ideal S256x128 .f32)
    (f8 : BufTy.Contents (Elt Ideal) a8.view.ty) (f9 : BufTy.Contents (Elt Ideal) a9.view.ty) : Prop :=
  Holds (i 2).val (zOf x0 x1 0) (vOf x2) n (fun r l => acc.1 (ix2 r l)) (fun r l => acc.2.1 (ix2 r l))
      (fun r c => a8.view.read (Elt Ideal) f8 (ix3 0 r c)) (fun r l => a9.view.read (Elt Ideal) f9 (ix3 0 r l)) ∧
    Holds (i 2).val (zOf x0 x1 1) (vOf x2) n (fun r l => acc.2.2.1 (ix2 r l)) (fun r l => acc.2.2.2 (ix2 r l))
      (fun r c => a8.view.read (Elt Ideal) f8 (ix3 1 r c)) (fun r l => a9.view.read (Elt Ideal) f9 (ix3 1 r l))

theorem tripR_eq (𝒱 : Variants) (c : Dev nD) (bd : Option 𝒱.V) (i : grid0.Coords) (a2 : BitVec 32) (v1 : FVec Ideal S256x384 .bf16)
    (n : Fin (k0_t1_loop i).trips) (acc) (f8 : BufTy.Contents (Elt Ideal) a8.view.ty) (f9 : BufTy.Contents (Elt Ideal) a9.view.ty) :
    tripR_k0_t1 (F := Ideal) 𝒱 c bd i a3 h3 a4 h4 a5 h5 a6 h6 a7 h7 a8 h8 a9 h9 a2 v1 (h3.unread x0) (h4.unread x1) (h5.unread x2) n acc f8 f9
      = (k0_pay16 i 0#32 1#32 n acc.1 acc.2.1 (a8.view.readAt (Elt Ideal) (Rect.unit (s := S2x256x256) ![0, 0, 0] S1x256x256.size inb_S2x256x256_S1x256x256_0_0_0).toLoadRect f8)
          (a5.view.readAt (Elt Ideal) (Rect.unit (s := S8192x128) (k0_off4 i n) S256x128.size (k0_off4_inb i n)).toLoadRect (h5.unread x2)),
        k0_pay17 i 0#32 1#32 n acc.2.1 (a9.view.readAt (Elt Ideal) (Rect.unit (s := S2x256x128) ![0, 0, 0] S1x256x128.size inb_S2x256x128_S1x256x128_0_0_0).toLoadRect f9),
        k0_pay16 i 0#32 1#32 n acc.2.2.1 acc.2.2.2 (a8.view.readAt (Elt Ideal) (Rect.unit (s := S2x256x256) ![1, 0, 0] S1x256x256.size inb_S2x256x256_S1x256x256_1_0_0).toLoadRect f8)
          (a5.view.readAt (Elt Ideal) (Rect.unit (s := S8192x128) (k0_off4 i n) S256x128.size (k0_off4_inb i n)).toLoadRect (h5.unread x2)),
        k0_pay17 i 0#32 1#32 n acc.2.2.2 (a9.view.readAt (Elt Ideal) (Rect.unit (s := S2x256x128) ![1, 0, 0] S1x256x128.size inb_S2x256x128_S1x256x128_1_0_0).toLoadRect f9)) := by
  unfold tripR_k0_t1 trip_k0_t1
  rfl

/-- The query lanes of head `u` and the key rows and lanes of the next tile. -/
abbrev ldQ0 := View.readAt (Elt Ideal) a3.view (Rect.unit (s := S256x256) ![0, 0] S256x128.size inb_S256x256_S256x128_0_0).toLoadRect (h3.unread x0)
abbrev ldQ1 := View.readAt (Elt Ideal) a3.view (Rect.unit (s := S256x256) ![0, 128] S256x128.size inb_S256x256_S256x128_0_128).toLoadRect (h3.unread x0)
abbrev ldK0 (i : grid0.Coords) (n : Fin (k0_t1_loop i).trips) :=
  View.readAt (Elt Ideal) a4.view (Rect.unit (s := S8192x256) (k0_off5 i n) S256x128.size (k0_off5_inb i n)).toLoadRect (h4.unread x1)
abbrev ldK1 (i : grid0.Coords) (n : Fin (k0_t1_loop i).trips) :=
  View.readAt (Elt Ideal) a4.view (Rect.unit (s := S8192x256) (k0_off6 i n) S256x128.size (k0_off6_inb i n)).toLoadRect (h4.unread x1)

theorem tripL_eq (𝒱 : Variants) (c : Dev nD) (bd : Option 𝒱.V) (i : grid0.Coords) (a2 : BitVec 32) (v1 : FVec Ideal S256x384 .bf16)
    (n : Fin (k0_t1_loop i).trips) (acc) (f8 : BufTy.Contents (Elt Ideal) a8.view.ty) (f9 : BufTy.Contents (Elt Ideal) a9.view.ty) :
    tripL_k0_t1 (F := Ideal) 𝒱 c bd i a3 h3 a4 h4 a5 h5 a6 h6 a7 h7 a8 h8 a9 h9 a2 v1 (h3.unread x0) (h4.unread x1) (h5.unread x2) n acc f8 f9
      = ([⟨Rect.unit (s := S2x256x256) ![1, 0, 0] ![1, 256, 256] inb_S2x256x256_S1x256x256_1_0_0, k0_pay5 (k0_pay23 v1 (ldQ1 a3 h3 x0) (ldK1 a4 h4 x1 i n))⟩,
          ⟨Rect.unit (s := S2x256x256) ![0, 0, 0] ![1, 256, 256] inb_S2x256x256_S1x256x256_0_0_0, k0_pay5 (k0_pay23 v1 (ldQ0 a3 h3 x0) (ldK0 a4 h4 x1 i n))⟩],
        [⟨Rect.unit (s := S2x256x128) ![1, 0, 0] ![1, 256, 128] inb_S2x256x128_S1x256x128_1_0_0, k0_pay6 (k0_pay24 v1 (ldQ1 a3 h3 x0) (ldK1 a4 h4 x1 i n))⟩,
          ⟨Rect.unit (s := S2x256x128) ![0, 0, 0] ![1, 256, 128] inb_S2x256x128_S1x256x128_0_0_0, k0_pay6 (k0_pay24 v1 (ldQ0 a3 h3 x0) (ldK0 a4 h4 x1 i n))⟩]) := by
  unfold tripL_k0_t1 trip_k0_t1
  rfl

theorem pay5_apply (p : FVec Ideal S256x256 .f32) (r c : Fin 256) : (k0_pay5 p (ix3 0 r c) : EReal) = p (ix2 r c) := by
  pointwise [k0_pay5]
theorem pay6_apply (p : FVec Ideal S256x128 .f32) (r : Fin 256) (l : Fin 128) : (k0_pay6 p (ix3 0 r l) : EReal) = p (ix2 r l) := by
  pointwise [k0_pay6]

/-- One trip takes both heads one step on. -/
theorem both_step (𝒱 : Variants) (c : Dev nD) (bd : Option 𝒱.V) (i : grid0.Coords) (a2 : BitVec 32)
    (v1 : FVec Ideal S256x384 .bf16) (hv : IsCum v1)
    (n : Fin (k0_t1_loop i).trips) (acc) (G8 : BufTy.Contents (Elt Ideal) a8.view.ty) (G9 : BufTy.Contents (Elt Ideal) a9.view.ty)
    (L8 : List (View.Piece (Elt Ideal) S2x256x256 .f32)) (L9 : List (View.Piece (Elt Ideal) S2x256x128 .f32))
    (H : Both a8 a9 x0 x1 x2 i n.val acc (a8.view.writes (Elt Ideal) G8 L8) (a9.view.writes (Elt Ideal) G9 L9)) :
    Both a8 a9 x0 x1 x2 i (n.val + 1)
      (tripR_k0_t1 (F := Ideal) 𝒱 c bd i a3 h3 a4 h4 a5 h5 a6 h6 a7 h7 a8 h8 a9 h9 a2 v1 (h3.unread x0) (h4.unread x1) (h5.unread x2) n acc
        (a8.view.writes (Elt Ideal) G8 L8) (a9.view.writes (Elt Ideal) G9 L9))
      (a8.view.writes (Elt Ideal) G8 ((tripL_k0_t1 (F := Ideal) 𝒱 c bd i a3 h3 a4 h4 a5 h5 a6 h6 a7 h7 a8 h8 a9 h9 a2 v1 (h3.unread x0) (h4.unread x1) (h5.unread x2) n acc
        (a8.view.writes (Elt Ideal) G8 L8) (a9.view.writes (Elt Ideal) G9 L9)).1 ++ L8))
      (a9.view.writes (Elt Ideal) G9 ((tripL_k0_t1 (F := Ideal) 𝒱 c bd i a3 h3 a4 h4 a5 h5 a6 h6 a7 h7 a8 h8 a9 h9 a2 v1 (h3.unread x0) (h4.unread x1) (h5.unread x2) n acc
        (a8.view.writes (Elt Ideal) G8 L8) (a9.view.writes (Elt Ideal) G9 L9)).2 ++ L9)) := by
  have hi := i2_lt i
  have hn : n.val ≤ (i 2).val := by have := trips1 i; have := n.isLt; omega
  rw [tripR_eq, tripL_eq]
  have hz0 : ∀ r d : Fin 256, (k0_pay20 (ldQ0 a3 h3 x0) (ldK0 a4 h4 x1 i n) (ix2 r d) : EReal) = zOf x0 x1 0 r (256 * ((i 2).val - 1 - n.val) + d.val) := fun r d =>
    score_eq a3 h3 a4 h4 x0 x1 0 _ _ _ _ ((i 2).val - 1 - n.val) (by omega) rfl (off5 i n) r d
  have hz1 : ∀ r d : Fin 256, (k0_pay20 (ldQ1 a3 h3 x0) (ldK1 a4 h4 x1 i n) (ix2 r d) : EReal) = zOf x0 x1 1 r (256 * ((i 2).val - 1 - n.val) + d.val) := fun r d =>
    score_eq a3 h3 a4 h4 x0 x1 1 _ _ _ _ ((i 2).val - 1 - n.val) (by omega) rfl (off6 i n) r d
  have hval : ∀ (d : Fin 256) (l : Fin 128), _ := fun d l => value_apply a5 h5 x2 _ (k0_off4_inb i n) ((i 2).val - n.val) (by omega) (off4 i n) d l
  refine ⟨H.1.step _ _ hi hn _ _ (fun r l => ?_) (fun r l => ?_) (fun r d => ?_) (fun r l => ?_),
    H.2.step _ _ hi hn _ _ (fun r l => ?_) (fun r l => ?_) (fun r d => ?_) (fun r l => ?_)⟩
  · refine (pay16_apply i n _ _ _ _ r l).trans ?_
    congr 1
    refine if_congr Iff.rfl (Finset.sum_congr rfl fun d _ => ?_) rfl
    exact congrArg₂ (· * ·) (congrArg Ideal.exp2 (congrArg₂ (· - ·) (load3 a8 _ 0 0 rfl _ r d) rfl)) (hval d l)
  · refine (pay17_apply i n _ _ r l).trans ?_
    congr 1
    exact if_congr Iff.rfl (load3 a9 _ 0 0 rfl _ r l) rfl
  · refine (store3 a8 G8 _ _ _ _ L8 0 r d).trans ((if_pos rfl).trans ((pay5_apply _ r d).trans ?_))
    exact part_real v1 hv _ _ r (fun e => zOf x0 x1 0 r (256 * ((i 2).val - 1 - n.val) + e.val)) (hz0 r) d
  · refine (store3 a9 G9 _ _ _ _ L9 0 r l).trans ((if_pos rfl).trans ((pay6_apply _ r l).trans ?_))
    exact tot_real v1 hv _ _ r (fun e => zOf x0 x1 0 r (256 * ((i 2).val - 1 - n.val) + e.val)) (hz0 r) l
  · refine (pay16_apply i n _ _ _ _ r l).trans ?_
    congr 1
    refine if_congr Iff.rfl (Finset.sum_congr rfl fun d _ => ?_) rfl
    exact congrArg₂ (· * ·) (congrArg Ideal.exp2 (congrArg₂ (· - ·) (load3 a8 _ 1 1 rfl _ r d) rfl)) (hval d l)
  · refine (pay17_apply i n _ _ r l).trans ?_
    congr 1
    exact if_congr Iff.rfl (load3 a9 _ 1 1 rfl _ r l) rfl
  · refine (store3 a8 G8 _ _ _ _ L8 1 r d).trans ((if_neg (by decide)).trans ((pay5_apply _ r d).trans ?_))
    exact part_real v1 hv _ _ r (fun e => zOf x0 x1 1 r (256 * ((i 2).val - 1 - n.val) + e.val)) (hz1 r) d
  · refine (store3 a9 G9 _ _ _ _ L9 1 r l).trans ((if_neg (by decide)).trans ((pay6_apply _ r l).trans ?_))
    exact tot_real v1 hv _ _ r (fun e => zOf x0 x1 1 r (256 * ((i 2).val - 1 - n.val) + e.val)) (hz1 r) l

/-- After `n` trips. -/
theorem both_loop (𝒱 : Variants) (c : Dev nD) (bd : Option 𝒱.V) (i : grid0.Coords) (a2 : BitVec 32)
    (v1 : FVec Ideal S256x384 .bf16) (hv : IsCum v1) (G8 : BufTy.Contents (Elt Ideal) a8.view.ty) (G9 : BufTy.Contents (Elt Ideal) a9.view.ty) (init)
    (H : Both a8 a9 x0 x1 x2 i 0 init G8 G9) (n : ℕ) (hn : n ≤ (k0_t1_loop i).trips) :
    Both a8 a9 x0 x1 x2 i n
      (st_k0_t1 (F := Ideal) 𝒱 c bd i a3 h3 a4 h4 a5 h5 a6 h6 a7 h7 a8 h8 a9 h9 a2 v1 (h3.unread x0) (h4.unread x1) (h5.unread x2) G8 G9 init n).1
      (a8.view.writes (Elt Ideal) G8 (st_k0_t1 (F := Ideal) 𝒱 c bd i a3 h3 a4 h4 a5 h5 a6 h6 a7 h7 a8 h8 a9 h9 a2 v1 (h3.unread x0) (h4.unread x1) (h5.unread x2) G8 G9 init n).2.1)
      (a9.view.writes (Elt Ideal) G9 (st_k0_t1 (F := Ideal) 𝒱 c bd i a3 h3 a4 h4 a5 h5 a6 h6 a7 h7 a8 h8 a9 h9 a2 v1 (h3.unread x0) (h4.unread x1) (h5.unread x2) G8 G9 init n).2.2) := by
  induction n with
  | zero => exact H
  | succ n ih =>
    rw [st_k0_t1_succ 𝒱 c bd i a3 h3 a4 h4 a5 h5 a6 h6 a7 h7 a8 h8 a9 h9 a2 v1 (h3.unread x0) (h4.unread x1) (h5.unread x2) G8 G9 init ⟨n, hn⟩]
    exact both_step a3 h3 a4 h4 a5 h5 a6 h6 a7 h7 a8 h8 a9 h9 x0 x1 x2 𝒱 c bd i a2 v1 hv ⟨n, hn⟩ _ G8 G9 _ _ (ih (by omega))

end Cert.Kernel4Ideal.Value

end
-- ==== Proof.SbBlocks.lean ====
/-
  The stick-breaking kernel's blocks as entries of the call's arguments, and its table of cumulative sums.
-/
module

public import proofs.«01_k».proof.Proof.SbTrip
public import proofs.«01_k».proof.Proof.Gen.Kernel4Ideal.Value

@[expose] public section

set_option maxRecDepth 16384

noncomputable section

namespace Cert.Sb

open Idealize.ShloMosaic

/-- The score of row `n` against key `C` of its batch, of head `g`: queries `q`, keys `k`. -/
def zrow (q k : Fin 16384 → Fin 1024 → EReal) (n : Fin 16384) (g : Fin 8) (C : ℕ) : EReal :=
  if h : C < 8192 then ∑ d : Fin 128, q n ⟨128 * g.val + d.val, by omega⟩ * k ⟨8192 * (n.val / 8192) + C, by omega⟩ ⟨128 * g.val + d.val, by omega⟩
  else 0

/-- The result of row `n` at column `j`: the values of the keys behind it by their stick-breaking weights. -/
def val (q k : Fin 16384 → Fin 1024 → EReal) (v : Fin 16384 → Fin 512 → EReal) (n : Fin 16384) (j : Fin 512) : EReal :=
  ∑ C : Fin 8192, (wt (n.val % 8192) (zrow q k n ⟨j.val / 64, by omega⟩) C : EReal) * v ⟨8192 * (n.val / 8192) + C.val, by omega⟩ j

end Cert.Sb

namespace Cert.Kernel4Ideal.Value

open Cert.Kernel4Ideal Cert.Kernel4Ideal.Gen Idealize.ShloMosaic Idealize.ShloMosaic.TcCoe Idealize.SL.Sem
open Cert.Sb

theorem hN : cfg0.N = 256 := N_0

theorem coord2 : ∀ t : Fin cfg0.N, (grid0.coords t 2).val = t.val % 32 := by decide +kernel
theorem idx0 : ∀ t : Fin cfg0.N, win0_0.index t (0 : Fin 2) = 32 * (t.val / 128) + t.val % 32 ∧ win0_0.index t (1 : Fin 2) = t.val / 32 % 4 := by decide +kernel
theorem idx1 : ∀ t : Fin cfg0.N, win0_1.index t (0 : Fin 2) = t.val / 128 ∧ win0_1.index t (1 : Fin 2) = t.val / 32 % 4 := by decide +kernel
theorem idx2 : ∀ t : Fin cfg0.N, win0_2.index t (0 : Fin 2) = t.val / 128 ∧ win0_2.index t (1 : Fin 2) = t.val / 32 % 4 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 32 * (t.val / 128) + t.val % 32 ∧ win0_4.index t (1 : Fin 2) = t.val / 32 % 4 := by decide +kernel

variable (m : (ℓ : Loc nD τ sig) → Buf (Elt Ideal) ℓ)

/-- Row `r` of the query block of point `t`. -/
abbrev rowOf (t : Fin cfg0.N) (r : Fin 256) : Fin 16384 :=
  ⟨8192 * (t.val / 128) + 256 * (t.val % 32) + r.val, by have := t.isLt; have := hN; omega⟩
/-- Key `C` of the batch of point `t`. -/
abbrev keyOf (t : Fin cfg0.N) (C : Fin 8192) : Fin 16384 := ⟨8192 * (t.val / 128) + C.val, by have := t.isLt; have := hN; omega⟩
/-- Column `k` of the pair of heads of point `t`. -/
abbrev colOf (t : Fin cfg0.N) (k : Fin 256) : Fin 1024 := ⟨256 * (t.val / 32 % 4) + k.val, by omega⟩
/-- Value column `l` of the pair of heads of point `t`. -/
abbrev vcolOf (t : Fin cfg0.N) (l : Fin 128) : Fin 512 := ⟨128 * (t.val / 32 % 4) + l.val, by omega⟩

theorem blk0 (c : Dev nD) (t : Fin cfg0.N) (r k : Fin 256) :
    (iblk m c 0 t : Vec Ideal S256x256 .bf16) (ix2 r k) = m ((c : Thread nD τ).loc main_arg0) (ix2 (rowOf t r) (colOf t k)) := by
  rw [← V_main_arg0 m c]
  unfold iblk
  rw [View.read_apply]
  show V m c main_arg0 _ = V m c main_arg0 _
  congr 1; funext a; apply Fin.ext
  obtain ⟨e0, e1⟩ := idx0 t
  match a with
  | ⟨0, _⟩ => show win0_0.index t (0 : Fin 2) * 256 + 1 * r.val = 8192 * (t.val / 128) + 256 * (t.val % 32) + r.val; omega
  | ⟨1, _⟩ => show win0_0.index t (1 : Fin 2) * 256 + 1 * k.val = 256 * (t.val / 32 % 4) + k.val; omega

theorem blk1 (c : Dev nD) (t : Fin cfg0.N) (C : Fin 8192) (k : Fin 256) :
    (iblk m c 1 t : Vec Ideal S8192x256 .bf16) (ix2 C k) = m ((c : Thread nD τ).loc main_arg1) (ix2 (keyOf t C) (colOf t k)) := by
  rw [← V_main_arg1 m c]
  unfold iblk
  rw [View.read_apply]
  show V m c main_arg1 _ = V m c main_arg1 _
  congr 1; funext a; apply Fin.ext
  obtain ⟨e0, e1⟩ := idx1 t
  match a with
  | ⟨0, _⟩ => show win0_1.index t (0 : Fin 2) * 8192 + 1 * C.val = 8192 * (t.val / 128) + C.val; omega
  | ⟨1, _⟩ => show win0_1.index t (1 : Fin 2) * 256 + 1 * k.val = 256 * (t.val / 32 % 4) + k.val; omega

theorem blk2 (c : Dev nD) (t : Fin cfg0.N) (C : Fin 8192) (l : Fin 128) :
    (iblk m c 2 t : Vec Ideal S8192x128 .bf16) (ix2 C l) = m ((c : Thread nD τ).loc main_arg2) (ix2 (keyOf t C) (vcolOf t l)) := by
  rw [← V_main_arg2 m c]
  unfold iblk
  rw [View.read_apply]
  show V m c main_arg2 _ = V m c main_arg2 _
  congr 1; funext a; apply Fin.ext
  obtain ⟨e0, e1⟩ := idx2 t
  match a with
  | ⟨0, _⟩ => show win0_2.index t (0 : Fin 2) * 8192 + 1 * C.val = 8192 * (t.val / 128) + C.val; omega
  | ⟨1, _⟩ => show win0_2.index t (1 : Fin 2) * 128 + 1 * l.val = 128 * (t.val / 32 % 4) + l.val; omega

theorem blk3 (c : Dev nD) (t : Fin cfg0.N) (c' : Fin 256) (l : Fin 384) :
    (iblk m c 3 t : Vec Ideal S256x384 .bf16) (ix2 c' l) = V m c main_v9 (ix2 c' l) := by
  unfold iblk
  rw [View.read_apply]
  show V m c main_v9 _ = V m c main_v9 _
  congr 1; funext a; apply Fin.ext
  obtain ⟨e0, e1⟩ := idx3 t
  match a with
  | ⟨0, _⟩ => show win0_3.index t (0 : Fin 2) * 256 + 1 * c'.val = c'.val; omega
  | ⟨1, _⟩ => show win0_3.index t (1 : Fin 2) * 384 + 1 * l.val = l.val; omega

/-- A matrix of zeros and ones beside a matrix of ones. -/
def table (a : FVec Ideal S256x256 .f32) (b : FVec Ideal S256x128 .f32) : FVec Ideal S256x384 .bf16 :=
  truncf .bf16 (concatenate S256x384 1 [⟨S256x256, a⟩, ⟨S256x128, b⟩] concatenates_S256x256_S256x128_S256x384_d1 : FVec Ideal S256x384 .f32) bitsLt_bf16_f32

/-- Where the row is behind the column. -/
def later : FVec Ideal S256x256 .f32 :=
  uitofp .f32 (cmpi .sgt
    (broadcastInDim S256x256 ![0, 1] bcast_S256x1_S256x256_0_1 (broadcastInDim S256x1 ![0] bcast_S256_S256x1_0 (iotaInDim S256 32 0 : IVec S256 32) : IVec S256x1 32) : IVec S256x256 32)
    (broadcastInDim S256x256 ![0, 1] bcast_S1x256_S256x256_0_1 (broadcastInDim S1x256 ![1] bcast_S256_S1x256_1 (iotaInDim S256 32 0 : IVec S256 32) : IVec S1x256 32) : IVec S256x256 32)
    : IVec S256x256 1)

theorem table_left (a : FVec Ideal S256x256 .f32) (b : FVec Ideal S256x128 .f32) (c' d : Fin 256) :
    (table a b (ix2 c' ⟨d.val, by omega⟩) : EReal) = a (ix2 c' d) := by
  have hd := d.isLt
  unfold table
  pointwise

theorem table_right (a : FVec Ideal S256x256 .f32) (b : FVec Ideal S256x128 .f32) (c' : Fin 256) (l : Fin 128) :
    (table a b (ix2 c' ⟨256 + l.val, by omega⟩) : EReal) = b (ix2 c' l) := by
  unfold table
  pointwise

theorem sgt_word : ∀ a b : Fin 256, IntOp.cmpi .sgt (BitVec.ofNat 32 a.val) (BitVec.ofNat 32 b.val) = if b.val < a.val then 1#1 else 0#1 := by decide +kernel

theorem later_apply (c' d : Fin 256) : (later (ix2 c' d) : EReal) = if d.val < c'.val then 1 else 0 := by
  have h : (later (ix2 c' d) : EReal) = ((IntOp.cmpi .sgt (BitVec.ofNat 32 c'.val) (BitVec.ofNat 32 d.val)).toNat : ℝ) := by
    unfold later
    pointwise
    rfl
  rw [h, sgt_word]
  split <;> simp

theorem V_table (c : Dev nD) : (V m c main_v9 : FVec Ideal S256x384 .bf16)
    = table later (broadcastInDim S256x128 ![] bcast_S_S256x128 (constant S_ .f32 0x3F800000#32 : FVec Ideal S_ .f32)) := by
  show StableHlo.after _ (fun b => m (c, b)) main_v9 = _
  simp only [hostOps0, List.flatten_cons, List.flatten_nil, List.append_nil, List.cons_append, List.nil_append]
  after_results
  rfl

theorem isCum (c : Dev nD) (t : Fin cfg0.N) : IsCum (iblk m c 3 t : Vec Ideal S256x384 .bf16) := by
  refine ⟨fun c' d => ?_, fun c' l => ?_⟩
  · rw [blk3, V_table]
    exact (table_left _ _ c' d).trans (later_apply c' d)
  · rw [blk3, V_table]
    refine (table_right _ _ c' l).trans ?_
    show (Ideal.ofBits .f32 0x3F800000#32 : EReal) = 1
    exact Ideal.ofBits_one_f32

end Cert.Kernel4Ideal.Value

end
-- ==== Proof.SbSuffix.lean ====
/-
  The running sum from the end of an axis, as a window over the rest of the axis.
-/
module

public import Idealize.ShloMosaic.PureOps
public import Idealize.ShloMosaic.PureOps.Ideal
public import Idealize.ShloMosaic.Lib.Pointwise

@[expose] public section

set_option maxRecDepth 16384

noncomputable section

namespace Cert.Sb

open Idealize.ShloMosaic

/-- A walk that adds a number at each step ends at the sum. -/
theorem foldl_sum {α : Type} (step : EReal → α → EReal) (t : α → EReal) (h : ∀ r n, step r n = r + t n) (l : List α) (r : EReal) :
    l.foldl step (r : EReal) = ((r + (l.map t).sum : EReal)) := by
  induction l generalizing r with
  | nil => simp
  | cons a l ih => rw [List.foldl_cons, h, ih, List.map_cons, List.sum_cons, add_assoc]

/-- The window's places within the axis are the places from `C` on. -/
theorem sum_from (f : ℕ → EReal) (N C : ℕ) : ∑ n ∈ Finset.range N, (if C + n < N then f (C + n) else 0) = ∑ c ∈ Finset.Ico C N, f c := by
  rw [← Finset.sum_filter, show (Finset.range N).filter (fun n => C + n < N) = Finset.range (N - C) from Finset.ext fun n => by
    rw [Finset.mem_filter, Finset.mem_range, Finset.mem_range]; omega, Finset.sum_Ico_eq_sum_range]

theorem numel_last (N : ℕ) : (⟨4, ![1, 1, 1, N]⟩ : Shape).numel = N := by
  simp [Shape.numel, Fin.prod_univ_succ]

theorem symm_last (N : ℕ) (n : Fin (⟨4, ![1, 1, 1, N]⟩ : Shape).numel) :
    (⟨4, ![1, 1, 1, N]⟩ : Shape).rowMajor.symm n = ix4 0 0 0 (n.cast (numel_last N)) :=
  ((⟨4, ![1, 1, 1, N]⟩ : Shape).rowMajor.symm_apply_eq).2 (Fin.ext (by
    rw [Shape.rowMajor_val_four]
    show n.val = ((0 * 1 + 0) * 1 + 0) * N + n.val
    omega))

theorem suffix_sum {A B R N Nm1 : ℕ} (hN : Nm1 + 1 = N) (x : FVec Ideal ⟨4, ![A, B, R, N]⟩ .f32) (f : ℕ → EReal) (b : Fin A) (g : Fin B) (s : Fin R)
    (hx : ∀ C : Fin N, (x (ix4 b g s C) : EReal) = f C) (init : FVec Ideal ⟨0, ![]⟩ .f32) (hu : 0 < (⟨0, ![]⟩ : Shape).numel)
    (hinit : (init (Shape.Idx.first hu) : EReal) = 0)
    (h : (⟨4, ![A, B, R, N]⟩ : Shape).ReduceWindows ![1, 1, 1, N] ![1, 1, 1, 1] ![0, 0, 0, 0] ![0, 0, 0, Nm1] ⟨4, ![A, B, R, N]⟩) (C : Fin N) :
    (Host.reduceWindowAdd ![1, 1, 1, N] ![1, 1, 1, 1] ![0, 0, 0, 0] ![0, 0, 0, Nm1] x init h hu (ix4 b g s C) : EReal)
      = ((∑ c ∈ Finset.Ico C.val N, f c : EReal)) := by
  have key : ∀ (v : EReal) (hv : v = 0), Host.reduceWindow (α := EReal) (· + ·) ![1, 1, 1, N] ![1, 1, 1, 1] ![0, 0, 0, 0] ![0, 0, 0, Nm1] x (fun _ => v) h hu (ix4 b g s C)
      = ((∑ c ∈ Finset.Ico C.val N, f c : EReal)) := by
    intro v hv
    subst hv
    unfold Host.reduceWindow
    have hC := C.isLt
    refine (foldl_sum _ (fun n => if C.val + n.val < N then f (C.val + n.val) else 0) (fun r n => ?_) _ 0).trans ?_
    · have hw := symm_last N n
      have hn : n.val < N := (n.cast (numel_last N)).isLt
      have hw0 : ((⟨4, ![1, 1, 1, N]⟩ : Shape).rowMajor.symm n 0).val = 0 := by rw [hw]; rfl
      have hw1 : ((⟨4, ![1, 1, 1, N]⟩ : Shape).rowMajor.symm n 1).val = 0 := by rw [hw]; rfl
      have hw2 : ((⟨4, ![1, 1, 1, N]⟩ : Shape).rowMajor.symm n 2).val = 0 := by rw [hw]; rfl
      have hw3 : ((⟨4, ![1, 1, 1, N]⟩ : Shape).rowMajor.symm n 3).val = n.val := by rw [hw]; rfl
      dsimp only
      refine congrArg (r + ·) ?_
      split
      · next hin =>
        have h3 := hin 3
        change 0 ≤ C.val * 1 + ((⟨4, ![1, 1, 1, N]⟩ : Shape).rowMajor.symm n 3).val ∧ C.val * 1 + ((⟨4, ![1, 1, 1, N]⟩ : Shape).rowMajor.symm n 3).val - 0 < N at h3
        rw [hw3] at h3
        rw [if_pos (by omega)]
        refine (congrArg x (funext fun a => Fin.ext ?_)).trans (hx ⟨C.val + n.val, by omega⟩)
        match a with
        | ⟨0, _⟩ => show b.val * 1 + ((⟨4, ![1, 1, 1, N]⟩ : Shape).rowMajor.symm n 0).val - 0 = b.val; rw [hw0]; omega
        | ⟨1, _⟩ => show g.val * 1 + ((⟨4, ![1, 1, 1, N]⟩ : Shape).rowMajor.symm n 1).val - 0 = g.val; rw [hw1]; omega
        | ⟨2, _⟩ => show s.val * 1 + ((⟨4, ![1, 1, 1, N]⟩ : Shape).rowMajor.symm n 2).val - 0 = s.val; rw [hw2]; omega
        | ⟨3, _⟩ => show C.val * 1 + ((⟨4, ![1, 1, 1, N]⟩ : Shape).rowMajor.symm n 3).val - 0 = C.val + n.val; rw [hw3]; omega
      · next hin =>
        have hb := b.isLt
        have hg := g.isLt
        have hs := s.isLt
        rw [if_neg fun hle => hin fun a => by
          match a with
          | ⟨0, _⟩ =>
            show 0 ≤ b.val * 1 + ((⟨4, ![1, 1, 1, N]⟩ : Shape).rowMajor.symm n 0).val ∧ b.val * 1 + ((⟨4, ![1, 1, 1, N]⟩ : Shape).rowMajor.symm n 0).val - 0 < A
            rw [hw0]; omega
          | ⟨1, _⟩ =>
            show 0 ≤ g.val * 1 + ((⟨4, ![1, 1, 1, N]⟩ : Shape).rowMajor.symm n 1).val ∧ g.val * 1 + ((⟨4, ![1, 1, 1, N]⟩ : Shape).rowMajor.symm n 1).val - 0 < B
            rw [hw1]; omega
          | ⟨2, _⟩ =>
            show 0 ≤ s.val * 1 + ((⟨4, ![1, 1, 1, N]⟩ : Shape).rowMajor.symm n 2).val ∧ s.val * 1 + ((⟨4, ![1, 1, 1, N]⟩ : Shape).rowMajor.symm n 2).val - 0 < R
            rw [hw2]; omega
          | ⟨3, _⟩ =>
            show 0 ≤ C.val * 1 + ((⟨4, ![1, 1, 1, N]⟩ : Shape).rowMajor.symm n 3).val ∧ C.val * 1 + ((⟨4, ![1, 1, 1, N]⟩ : Shape).rowMajor.symm n 3).val - 0 < N
            rw [hw3]; omega]
    · rw [zero_add, ← Fin.sum_univ_def, Fin.sum_univ_eq_sum_range (fun n => if C.val + n < N then f (C.val + n) else 0),
        show Finset.range (⟨(⟨4, ![A, B, R, N]⟩ : Shape).rank, ![1, 1, 1, N]⟩ : Shape).numel = Finset.range N from congrArg Finset.range (numel_last N), sum_from]
  exact key _ hinit

end Cert.Sb

end
-- ==== Proof.SbRef.lean ====
/-
  The stick-breaking attention's reference: its result array at an element.
-/
module

public import proofs.«01_k».proof.Proof.SbBlocks
public import proofs.«01_k».proof.Proof.SbSuffix
public import proofs.«01_k».proof.Proof.Gen.Reference4Ideal.Read
public import Idealize.ShloMosaic.Lib.WordCmp

@[expose] public section

set_option maxRecDepth 16384

noncomputable section

namespace Cert.Reference4Ideal.Read

open Cert.Reference4Ideal Idealize.ShloMosaic Idealize.ShloMosaic.TcCoe
open Cert.Sb

variable (x0 x1 : FVec Ideal S16384x1024 .bf16) (x2 : FVec Ideal S16384x512 .bf16)

/-- Token `s` of batch `b` among the rows. -/
abbrev tok (b : Fin 2) (s : Fin 8192) : Fin 16384 := ⟨8192 * b.val + s.val, by omega⟩

theorem at_tok {K : ℕ} (b : Fin 2) (s : Fin 8192) {w g l : ℕ} (h : b.val * 8192 + s.val < 16384) (hk : g * w + l < K) :
    (ix2 (⟨b.val * 8192 + s.val, h⟩ : Fin 16384) (⟨g * w + l, hk⟩ : Fin K)) = ix2 (tok b s) ⟨w * g + l, by rw [Nat.mul_comm]; exact hk⟩ :=
  congrArg₂ ix2 (Fin.ext (by show b.val * 8192 + s.val = 8192 * b.val + s.val; omega)) (Fin.ext (by show g * w + l = w * g + l; rw [Nat.mul_comm]))

theorem q_apply (b : Fin 2) (s : Fin 8192) (g : Fin 8) (d : Fin 128) :
    (val_main_v1 (F := Ideal) x0 (ix4 b s g d) : EReal) = x0 (ix2 (tok b s) ⟨128 * g.val + d.val, by omega⟩) := by
  pointwise [val_main_v1, val_main_v0]
  rw [at_tok]

theorem k_apply (b : Fin 2) (s : Fin 8192) (g : Fin 8) (d : Fin 128) :
    (val_main_v3 (F := Ideal) x1 (ix4 b s g d) : EReal) = x1 (ix2 (tok b s) ⟨128 * g.val + d.val, by omega⟩) := by
  pointwise [val_main_v3, val_main_v2]
  rw [at_tok]

theorem v_apply (b : Fin 2) (s : Fin 8192) (g : Fin 8) (l : Fin 64) :
    (val_main_v5 (F := Ideal) x2 (ix4 b s g l) : EReal) = x2 (ix2 (tok b s) ⟨64 * g.val + l.val, by omega⟩) := by
  pointwise [val_main_v5, val_main_v4]
  rw [at_tok]

/-- The logarithm of two. -/
theorem log_apply (i : S2x8x8192x8192.Idx) : (val_main_v8 (F := Ideal) i : EReal) = (Real.log 2 : ℝ) := by
  rw [val_main_v8_apply, val_main_v7_apply, val_main_cst_apply]
  show Ideal.log (Ideal.ofBits .f32 0x40000000#32) = _
  rw [show Ideal.ofBits .f32 0x40000000#32 = ((2 : ℝ) : EReal) by
    simp [Ideal.ofBits, Ideal.ieee]
    rw [← EReal.coe_mul]
    norm_num, Ideal.log_coe, if_neg (by norm_num)]

/-- The host's softplus. -/
theorem softplus_eq (x : EReal) : Scalar.select (Ideal.cmp .une (x - 0) (x - 0)) (x + 0)
    (max x 0 + Ideal.log1p (Ideal.exp (-(max (x - 0) (-(x - 0)))))) = sp x := by
  rw [sub_zero]
  unfold Scalar.select Ideal.cmp
  simp [sp]

/-- The two log-sigmoids of a score `x`. -/
theorem split_apply (i : S2x8x8192x8192.Idx) (x : EReal) (h : (val_main_v9 (F := Ideal) x0 x1 i : EReal) = x) :
    (val_main_v18 (F := Ideal) x0 x1 i : EReal) = -sp x ∧ (val_main_v22 (F := Ideal) x0 x1 i : EReal) = -sp (-x) := by
  constructor
  · have e : (val_main_call0_v0 (F := Ideal) x0 x1 i : EReal) = x := by
      rw [val_main_call0_v0_apply, val_main_v17_apply, h]
      show -(-x) = x
      rw [neg_neg]
    simp only [val_main_v18_apply, val_main_call0_v1_apply, val_main_call0_call0_v11_apply, val_main_call0_call0_v10_apply, val_main_call0_call0_v9_apply,
      val_main_call0_call0_v8_apply, val_main_call0_call0_v7_apply, val_main_call0_call0_v6_apply, val_main_call0_call0_v5_apply, val_main_call0_call0_v4_apply,
      val_main_call0_call0_v3_apply, val_main_call0_call0_v2_apply, val_main_call0_call0_v1_apply, val_main_call0_call0_v0_apply, val_main_call0_call0_cst_apply, e]
    rw [← softplus_eq x, ← Ideal.ofBits_zero_f32]
    rfl
  · have e : (val_main_call3_v0 (F := Ideal) x0 x1 i : EReal) = -x := by
      rw [val_main_call3_v0_apply, h]
      rfl
    generalize hw : -x = w at e
    simp only [val_main_v22_apply, val_main_call3_v1_apply, val_main_call3_call0_v11_apply, val_main_call3_call0_v10_apply, val_main_call3_call0_v9_apply,
      val_main_call3_call0_v8_apply, val_main_call3_call0_v7_apply, val_main_call3_call0_v6_apply, val_main_call3_call0_v5_apply, val_main_call3_call0_v4_apply,
      val_main_call3_call0_v3_apply, val_main_call3_call0_v2_apply, val_main_call3_call0_v1_apply, val_main_call3_call0_v0_apply, val_main_call3_call0_cst_apply, e]
    rw [← softplus_eq w, ← Ideal.ofBits_zero_f32]
    rfl

/-- Which keys are behind the row. -/
theorem mask_apply (s C : Fin 8192) : val_main_v16 (F := Ideal) (ix2 s C) = if C.val < s.val then 1#1 else 0#1 := by
  have hs := s.isLt
  have hC := C.isLt
  rw [val_main_v16_apply, val_main_v14_apply, val_main_v11_apply, val_main_v10_apply, val_main_v15_apply, val_main_v13_apply, val_main_v12_apply]
  show IntOp.cmpi .slt (BitVec.ofNat 32 C.val) (BitVec.ofNat 32 s.val) = _
  rw [WordCmp.cmpi_slt_ofNat (by omega) (by omega)]
  by_cases h : C.val < s.val <;> simp [h]

/-! ## The steps of a row -/

/-- The scores of token `s` of batch `b`, of head `g`. -/
abbrev zof (b : Fin 2) (s : Fin 8192) (g : Fin 8) : ℕ → EReal := zrow (fun n k => x0 (ix2 n k)) (fun n k => x1 (ix2 n k)) (tok b s) g

theorem score_apply (b : Fin 2) (g : Fin 8) (s C : Fin 8192) :
    (val_main_v9 (F := Ideal) x0 x1 (ix4 b g s C) : EReal) = zof x0 x1 b s g C * (Real.log 2 : ℝ) := by
  have hs := s.isLt
  rw [val_main_v9_apply, val_main_v6_apply, log_apply]
  show (_ : EReal) * _ = _
  congr 1
  unfold zof zrow
  rw [dif_pos C.isLt]
  refine Finset.sum_congr rfl fun d _ => ?_
  have el : lidx_main_v6 (ix4 b g s C) d = ix4 b s g d := funext fun a => by match a with | ⟨0, _⟩ => rfl | ⟨1, _⟩ => rfl | ⟨2, _⟩ => rfl | ⟨3, _⟩ => rfl
  have er : ridx_main_v6 (ix4 b g s C) d = ix4 b C g d := funext fun a => by match a with | ⟨0, _⟩ => rfl | ⟨1, _⟩ => rfl | ⟨2, _⟩ => rfl | ⟨3, _⟩ => rfl
  have et : (⟨8192 * ((tok b s).val / 8192) + C.val, by omega⟩ : Fin 16384) = tok b C := Fin.ext (by
    show 8192 * ((8192 * b.val + s.val) / 8192) + C.val = 8192 * b.val + C.val; omega)
  rw [el, er, q_apply, k_apply, et]

theorem where1_apply (b : Fin 2) (g : Fin 8) (s C : Fin 8192) : val_main_call1_v1 (F := Ideal) (ix4 b g s C) = if C.val < s.val then 1#1 else 0#1 := by
  rw [val_main_call1_v1_apply, ← mask_apply]
  exact congrArg _ (funext fun a => by match a with | ⟨0, _⟩ => rfl | ⟨1, _⟩ => rfl)

theorem where4_apply (b : Fin 2) (g : Fin 8) (s C : Fin 8192) : val_main_call4_v1 (F := Ideal) (ix4 b g s C) = if C.val < s.val then 1#1 else 0#1 := by
  rw [val_main_call4_v1_apply, ← mask_apply]
  exact congrArg _ (funext fun a => by match a with | ⟨0, _⟩ => rfl | ⟨1, _⟩ => rfl)

/-- What a key keeps, in natural logs. -/
theorem kept_apply (b : Fin 2) (g : Fin 8) (s C : Fin 8192) :
    (val_main_v19 (F := Ideal) x0 x1 (ix4 b g s C) : EReal) = -((Real.log 2 : ℝ) * kap s (zof x0 x1 b s g) C) := by
  rw [val_main_v19_apply, where1_apply, (split_apply x0 x1 _ _ (score_apply x0 x1 b g s C)).1, sp_mul]
  unfold kap Scalar.select
  by_cases h : C.val < s.val
  · simp only [h, if_true]
    exact if_pos rfl
  · rw [val_main_call1_v2_apply, val_main_call1_v0_apply, val_main_cst_0_apply]
    simp only [h, if_false]
    show Ideal.ofBits .f32 0x00000000#32 = _
    rw [Ideal.ofBits_zero_f32]
    simp

/-- The kept logs from a key to the end. -/
theorem tail_apply (b : Fin 2) (g : Fin 8) (s C : Fin 8192) :
    (val_main_v20 (F := Ideal) x0 x1 (ix4 b g s C) : EReal) = -((Real.log 2 : ℝ) * rest s (zof x0 x1 b s g) C) := by
  unfold val_main_v20
  refine (suffix_sum rfl (val_main_v19 (F := Ideal) x0 x1) (fun c => -((Real.log 2 : ℝ) * kap s (zof x0 x1 b s g) c)) b g s
    (fun C => kept_apply x0 x1 b g s C) _ _ ?_ _ C).trans ?_
  · rw [val_main_call2_v0_apply, val_main_call2_cst_apply]
    exact Ideal.ofBits_zero_f32
  · unfold rest
    exact sum_neg_mul _ (fun c => kap_nonneg _ _ _) _

/-- The weights. -/
theorem weight_apply (b : Fin 2) (g : Fin 8) (s C : Fin 8192) :
    (val_main_v25 (F := Ideal) x0 x1 (ix4 b g s C) : EReal) = (wt s (zof x0 x1 b s g) C : EReal) := by
  rw [val_main_v25_apply, where4_apply]
  unfold wt Scalar.select
  by_cases h : C.val < s.val
  · have hk : kap s (zof x0 x1 b s g) C = keep (zof x0 x1 b s g C) := if_pos h
    have hr : rest s (zof x0 x1 b s g) C = keep (zof x0 x1 b s g C) + ∑ c ∈ Finset.Ico (C.val + 1) 8192, kap s (zof x0 x1 b s g) c := by
      unfold rest
      rw [Finset.sum_eq_sum_Ico_succ_bot C.isLt, hk]
    rw [val_main_v24_apply, val_main_v23_apply, val_main_v21_apply, (split_apply x0 x1 _ _ (score_apply x0 x1 b g s C)).2, tail_apply, kept_apply, hk, hr]
    simp only [h, if_true]
    exact (if_pos rfl).trans (weight_of_logs _ _ (Finset.sum_nonneg fun c _ => kap_nonneg _ _ _))
  · rw [val_main_call4_v2_apply, val_main_call4_v0_apply, val_main_cst_1_apply]
    simp only [h, if_false]
    show Ideal.ofBits .f32 0x00000000#32 = _
    rw [Ideal.ofBits_zero_f32]

/-- The reference's result at an element. -/
theorem result_apply (n : Fin 16384) (j : Fin 512) :
    (val_main_v29 (F := Ideal) x0 x1 x2 (ix2 n j) : EReal)
      = Sb.val (fun n k => x0 (ix2 n k)) (fun n k => x1 (ix2 n k)) (fun n k => x2 (ix2 n k)) n j := by
  have hn := n.isLt
  have hj := j.isLt
  have e : (val_main_v29 (F := Ideal) x0 x1 x2 (ix2 n j) : EReal)
      = val_main_v26 (F := Ideal) x0 x1 x2 (ix4 ⟨n.val / 8192, by omega⟩ ⟨j.val / 64, by omega⟩ ⟨j.val % 64, by omega⟩ ⟨n.val % 8192, by omega⟩) := by
    pointwise [val_main_v29, val_main_v28, val_main_v27]
  rw [e, val_main_v26_apply]
  unfold Sb.val
  refine Finset.sum_congr rfl fun C _ => ?_
  have el : lidx_main_v26 (ix4 ⟨n.val / 8192, by omega⟩ ⟨j.val / 64, by omega⟩ ⟨j.val % 64, by omega⟩ ⟨n.val % 8192, by omega⟩) C
      = ix4 ⟨n.val / 8192, by omega⟩ C ⟨j.val / 64, by omega⟩ ⟨j.val % 64, by omega⟩ := funext fun a => by match a with | ⟨0, _⟩ => rfl | ⟨1, _⟩ => rfl | ⟨2, _⟩ => rfl | ⟨3, _⟩ => rfl
  have er : ridx_main_v26 (ix4 ⟨n.val / 8192, by omega⟩ ⟨j.val / 64, by omega⟩ ⟨j.val % 64, by omega⟩ ⟨n.val % 8192, by omega⟩) C
      = ix4 ⟨n.val / 8192, by omega⟩ ⟨j.val / 64, by omega⟩ ⟨n.val % 8192, by omega⟩ C := funext fun a => by match a with | ⟨0, _⟩ => rfl | ⟨1, _⟩ => rfl | ⟨2, _⟩ => rfl | ⟨3, _⟩ => rfl
  rw [el, er, v_apply, weight_apply x0 x1, mul_comm]
  have et : tok ⟨n.val / 8192, by omega⟩ ⟨n.val % 8192, by omega⟩ = n := Fin.ext (by
    show 8192 * (n.val / 8192) + n.val % 8192 = n.val; omega)
  have ej : (⟨64 * (j.val / 64) + j.val % 64, by omega⟩ : Fin 512) = j := Fin.ext (by show 64 * (j.val / 64) + j.val % 64 = j.val; omega)
  unfold zof
  rw [et]
  show _ * (x2 (ix2 _ (⟨64 * (j.val / 64) + j.val % 64, by omega⟩ : Fin 512)) : EReal) = _
  rw [ej]

end Cert.Reference4Ideal.Read

end
-- ==== Proof.SbPoint.lean ====
/-
  What one grid point of the stick-breaking kernel leaves in its block: for every row the weighted sum of the values,
  the first half of the lanes by the even head's weights, the second half by the odd head's.
-/
module

public import proofs.«01_k».proof.Proof.SbTrip

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Sb

variable (a3 : Memref sig .tc .vmem S256x256 .bf16) (h3 : a3.IsWhole) (a4 : Memref sig .tc .vmem S8192x256 .bf16) (h4 : a4.IsWhole)
  (a5 : Memref sig .tc .vmem S8192x128 .bf16) (h5 : a5.IsWhole) (a6 : Memref sig .tc .vmem S256x384 .bf16) (h6 : a6.IsWhole)
  (a7 : Memref sig .tc .vmem S256x128 .bf16) (h7 : a7.IsWhole) (a8 : Memref sig .tc .vmem S2x256x256 .f32) (h8 : a8.IsWhole)
  (a9 : Memref sig .tc .vmem S2x256x128 .f32) (h9 : a9.IsWhole)
  (x0 : Vec Ideal S256x256 .bf16) (x1 : Vec Ideal S8192x256 .bf16) (x2 : Vec Ideal S8192x128 .bf16) (x3 : Vec Ideal S256x384 .bf16)

theorem hz2 : (![0, 0] : Fin 2 → Nat) = fun _ => 0 := funext fun a => by fin_cases a <;> rfl

abbrev ldK0d (i : grid0.Coords) :=
  View.readAt (Elt Ideal) a4.view (Rect.unit (s := S8192x256) (k0_off1 i) S256x128.size (k0_off1_inb i)).toLoadRect (h4.unread x1)
abbrev ldK1d (i : grid0.Coords) :=
  View.readAt (Elt Ideal) a4.view (Rect.unit (s := S8192x256) (k0_off2 i) S256x128.size (k0_off2_inb i)).toLoadRect (h4.unread x1)
abbrev ldVd (i : grid0.Coords) :=
  View.readAt (Elt Ideal) a5.view (Rect.unit (s := S8192x128) (k0_off3 i) S256x128.size (k0_off3_inb i)).toLoadRect (h5.unread x2)

/-- The carried values before the loop: the diagonal tile. -/
abbrev init4 (i : grid0.Coords) : FVec Ideal S256x128 .f32 × FVec Ideal S256x128 .f32 × FVec Ideal S256x128 .f32 × FVec Ideal S256x128 .f32 :=
  (k0_pay54 k0_pay41 k0_pay42 k0_pay43 (k0_pay49 x3 (ldQ0 a3 h3 x0) (ldK0d a4 h4 x1 i)) (ldVd a5 h5 x2 i),
    k0_pay55 k0_pay43 (k0_pay50 x3 (ldQ0 a3 h3 x0) (ldK0d a4 h4 x1 i)),
    k0_pay54 k0_pay41 k0_pay42 k0_pay43 (k0_pay49 x3 (ldQ1 a3 h3 x0) (ldK1d a4 h4 x1 i)) (ldVd a5 h5 x2 i),
    k0_pay55 k0_pay43 (k0_pay50 x3 (ldQ1 a3 h3 x0) (ldK1d a4 h4 x1 i)))

theorem both_start (hv : IsCum x3) (i : grid0.Coords) (f8 : BufTy.Contents (Elt Ideal) a8.view.ty)
    (f9 : BufTy.Contents (Elt Ideal) a9.view.ty) :
    Both a8 a9 x0 x1 x2 i 0 (init4 a3 h3 a4 h4 a5 h5 x0 x1 x2 x3 i) f8 f9 := by
  have hi := i2_lt i
  have hz0 : ∀ r d : Fin 256, (k0_pay20 (ldQ0 a3 h3 x0) (ldK0d a4 h4 x1 i) (ix2 r d) : EReal) = zOf x0 x1 0 r (256 * (i 2).val + d.val) := fun r d =>
    score_eq a3 h3 a4 h4 x0 x1 0 _ _ _ _ (i 2).val (by omega) rfl (off1 i) r d
  have hz1 : ∀ r d : Fin 256, (k0_pay20 (ldQ1 a3 h3 x0) (ldK1d a4 h4 x1 i) (ix2 r d) : EReal) = zOf x0 x1 1 r (256 * (i 2).val + d.val) := fun r d =>
    score_eq a3 h3 a4 h4 x0 x1 1 _ _ _ _ (i 2).val (by omega) rfl (off2 i) r d
  have hval : ∀ (d : Fin 256) (l : Fin 128), (ldVd a5 h5 x2 i (ix2 d l) : EReal) = vOf x2 (256 * (i 2).val + d.val) l := fun d l =>
    value_apply a5 h5 x2 _ (k0_off3_inb i) (i 2).val (by omega) (off3 i) d l
  refine ⟨Holds.start _ hi _ _ (fun r l => ?_) (fun r l => ?_), Holds.start _ hi _ _ (fun r l => ?_) (fun r l => ?_)⟩
  · refine (pay54_apply _ _ r l).trans (Finset.sum_congr rfl fun d _ => ?_)
    rw [diag_part_real x3 hv _ _ r (fun e => zOf x0 x1 0 r (256 * (i 2).val + e.val)) (hz0 r) d, hval]
  · exact (pay55_apply _ r l).trans (diag_tot_real x3 hv _ _ r (fun e => zOf x0 x1 0 r (256 * (i 2).val + e.val)) (hz0 r) l)
  · refine (pay54_apply _ _ r l).trans (Finset.sum_congr rfl fun d _ => ?_)
    rw [diag_part_real x3 hv _ _ r (fun e => zOf x0 x1 1 r (256 * (i 2).val + e.val)) (hz1 r) d, hval]
  · exact (pay55_apply _ r l).trans (diag_tot_real x3 hv _ _ r (fun e => zOf x0 x1 1 r (256 * (i 2).val + e.val)) (hz1 r) l)

theorem load_whole : (View.readAt (Elt Ideal) a6.view (Rect.unit (s := S256x384) ![0, 0] S256x384.size inb_S256x384_S256x384_0_0).toLoadRect (h6.unread x3)
    : Vec Ideal S256x384 .bf16) = x3 := by
  rw [View.readAt_eq_ld, h6.read_unread, View.ld_unit_zero (S := S256x384) hz2]

theorem load_cum : (k0_pay40 (View.readAt (Elt Ideal) a6.view (Rect.unit (s := S256x384) ![0, 0] S256x384.size inb_S256x384_S256x384_0_0).toLoadRect (h6.unread x3))
    : FVec Ideal S256x384 .bf16) = x3 := by
  rw [View.readAt_eq_ld, h6.read_unread, View.ld_unit_zero (S := S256x384) hz2]
  funext j
  obtain ⟨r, l, rfl⟩ : ∃ (r : Fin 256) (l : Fin 384), j = ix2 r l := ⟨j 0, j 1, by funext a; match a with | ⟨0, _⟩ => rfl | ⟨1, _⟩ => rfl⟩
  pointwise [k0_pay40]

/-- The second loop, over what the first leaves of a step of one, makes no trip. -/
theorem trips2_eq : ∀ a : Fin 32, Scf.trips (Scalar.addi 0#32 (Scalar.muli (Scalar.divsi (Scalar.subi (Scalar.addi (BitVec.ofNat 32 a.val) 1#32) 0#32) 1#32) 1#32))
    (Scalar.addi 0#32 (Scalar.subi (Scalar.addi (BitVec.ofNat 32 a.val) 1#32) 0#32)) 1#32 = 0 := by decide +kernel

theorem after_loop (hv : IsCum x3) (c : Dev nD) (i : grid0.Coords) (v1 : FVec Ideal S256x384 .bf16) (hv1 : v1 = x3)
    (G8 : BufTy.Contents (Elt Ideal) a8.view.ty) (G9 : BufTy.Contents (Elt Ideal) a9.view.ty) (init) (hinit : init = init4 a3 h3 a4 h4 a5 h5 x0 x1 x2 x3 i)
    (r : Fin 256) (l : Fin 128) :
    (k0_pay15 (st_k0_t1 (F := Ideal) Variants.none c none i a3 h3 a4 h4 a5 h5 a6 h6 a7 h7 a8 h8 a9 h9 (BitVec.ofNat 32 (i 2).val) v1 (h3.unread x0) (h4.unread x1)
          (h5.unread x2) G8 G9 init ((i 2).val + 1)).1.1
        (st_k0_t1 (F := Ideal) Variants.none c none i a3 h3 a4 h4 a5 h5 a6 h6 a7 h7 a8 h8 a9 h9 (BitVec.ofNat 32 (i 2).val) v1 (h3.unread x0) (h4.unread x1)
          (h5.unread x2) G8 G9 init ((i 2).val + 1)).1.2.2.1 (ix2 r l) : EReal)
      = if l.val < 64 then ∑ C : Fin 8192, (wt (256 * (i 2).val + r.val) (zOf x0 x1 0 r) C : EReal) * vOf x2 C l
        else ∑ C : Fin 8192, (wt (256 * (i 2).val + r.val) (zOf x0 x1 1 r) C : EReal) * vOf x2 C l := by
  subst hv1 hinit
  have H := both_loop a3 h3 a4 h4 a5 h5 a6 h6 a7 h7 a8 h8 a9 h9 x0 x1 x2 Variants.none c none i (BitVec.ofNat 32 (i 2).val) v1 hv G8 G9 _
    (both_start a3 h3 a4 h4 a5 h5 a8 a9 x0 x1 x2 v1 hv i G8 G9) ((i 2).val + 1) (le_of_eq (trips1 i).symm)
  rw [pay15_apply]
  split
  · exact H.1.finish _ (i2_lt i) _ _ r l
  · exact H.2.finish _ (i2_lt i) _ _ r l

theorem out_apply (hv : IsCum x3) (c : Dev nD) (i : grid0.Coords) (r : Fin 256) (l : Fin 128) :
    (out0_A_4 (F := Ideal) c i a3 h3 a4 h4 a5 h5 a6 h6 a7 h7 a8 h8 a9 h9 x0 x1 x2 x3 (ix2 r l) : EReal)
      = if l.val < 64 then ∑ C : Fin 8192, (wt (256 * (i 2).val + r.val) (zOf x0 x1 0 r) C : EReal) * vOf x2 C l
        else ∑ C : Fin 8192, (wt (256 * (i 2).val + r.val) (zOf x0 x1 1 r) C : EReal) * vOf x2 C l := by
  unfold out0_A_4
  rw [View.read_writes_eq_canon _ _ _ (cover0_A_4 c i a3 h3 a4 h4 a5 h5 a6 h6 a7 h7 a8 h8 a9 h9 x0 x1 x2 x3)]
  unfold kernelRun0_A
  dsimp only
  rw [View.canon_unit_zero (S := S256x128) hz2, trips_eq (i 2)]
  rw [trips2_eq (i 2), st_k0_t2_zero]
  refine after_loop a3 h3 a4 h4 a5 h5 a6 h6 a7 h7 a8 h8 a9 h9 x0 x1 x2 x3 hv c i (kernelRun0_A.sl.r c a6 h6 x3) ?_ _ _ _ ?_ r l
  · exact load_cum a6 h6 x3
  · sl_unfold_words
    rw [load_whole a6 h6 x3]
    rfl

end Cert.Kernel4Ideal.Value

end
-- ==== Proof.SbValue.lean ====
/-
  The stick-breaking kernel's result array at an element.
-/
module

public import proofs.«01_k».proof.Proof.SbBlocks
public import proofs.«01_k».proof.Proof.SbPoint

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Sb

variable (m : (ℓ : Loc nD τ sig) → Buf (Elt Ideal) ℓ)

/-- The queries, keys and values as launched. -/
abbrev qOf (c : Dev nD) : Fin 16384 → Fin 1024 → EReal := fun n k => m ((c : Thread nD τ).loc main_arg0) (ix2 n k)
abbrev kOf (c : Dev nD) : Fin 16384 → Fin 1024 → EReal := fun n k => m ((c : Thread nD τ).loc main_arg1) (ix2 n k)
abbrev wOf (c : Dev nD) : Fin 16384 → Fin 512 → EReal := fun n j => m ((c : Thread nD τ).loc main_arg2) (ix2 n j)

/-- The result array. -/
abbrev res4 (c : Dev nD) : FVec Ideal S16384x512 .bf16 := fun i => Sb.val (qOf m c) (kOf m c) (wOf m c) (i 0) (i 1)

/-- The head in the lanes `128 u …` of point `t`'s blocks. -/
abbrev headOf (t : Fin cfg0.N) (u : Fin 2) : Fin 8 := ⟨2 * (t.val / 32 % 4) + u.val, by omega⟩

theorem rowOf_div (t : Fin cfg0.N) (r : Fin 256) : (rowOf t r).val / 8192 = t.val / 128 := by
  show (8192 * (t.val / 128) + 256 * (t.val % 32) + r.val) / 8192 = _; omega
theorem rowOf_mod (t : Fin cfg0.N) (r : Fin 256) : (rowOf t r).val % 8192 = 256 * (t.val % 32) + r.val := by
  show (8192 * (t.val / 128) + 256 * (t.val % 32) + r.val) % 8192 = _; omega

/-- A block's scores are the array's. -/
theorem zOf_blk (c : Dev nD) (t : Fin cfg0.N) (u : Fin 2) (r : Fin 256) :
    zOf (iblk m c 0 t) (iblk m c 1 t) u r = zrow (qOf m c) (kOf m c) (rowOf t r) (headOf t u) := by
  funext C
  unfold zOf zrow
  by_cases h : C < 8192
  · rw [dif_pos h, dif_pos h]
    refine Finset.sum_congr rfl fun d _ => ?_
    have hu := u.isLt
    have hd := d.isLt
    have ec : colOf t ⟨128 * u.val + d.val, by omega⟩ = (⟨128 * (headOf t u).val + d.val, by omega⟩ : Fin 1024) := Fin.ext (by
      show 256 * (t.val / 32 % 4) + (128 * u.val + d.val) = 128 * (2 * (t.val / 32 % 4) + u.val) + d.val; omega)
    have ek : keyOf t ⟨C, h⟩ = (⟨8192 * ((rowOf t r).val / 8192) + C, by have := (rowOf t r).isLt; omega⟩ : Fin 16384) := Fin.ext (by
      show 8192 * (t.val / 128) + C = 8192 * ((rowOf t r).val / 8192) + C; rw [rowOf_div])
    rw [blk0, blk1, ec, ek]
  · rw [dif_neg h, dif_neg h]

/-- The block of point `t`, one head's lanes. -/
theorem sum_blk (c : Dev nD) (t : Fin cfg0.N) (u : Fin 2) (r : Fin 256) (l : Fin 128) (hl : l.val / 64 = u.val) :
    ∑ C : Fin 8192, (wt (256 * (grid0.coords t 2).val + r.val) (zOf (iblk m c 0 t) (iblk m c 1 t) u r) C : EReal) * vOf (iblk m c 2 t) C l
      = Sb.val (qOf m c) (kOf m c) (wOf m c) (rowOf t r) (vcolOf t l) := by
  unfold Sb.val
  rw [zOf_blk, coord2, rowOf_mod]
  have eh : headOf t u = (⟨(vcolOf t l).val / 64, by have := (vcolOf t l).isLt; omega⟩ : Fin 8) := Fin.ext (by
    show 2 * (t.val / 32 % 4) + u.val = (128 * (t.val / 32 % 4) + l.val) / 64; omega)
  rw [eh]
  refine Finset.sum_congr rfl fun C _ => congrArg (HMul.hMul _) ?_
  unfold vOf
  rw [dif_pos C.isLt, blk2]
  have ek : keyOf t ⟨C.val, C.isLt⟩ = (⟨8192 * ((rowOf t r).val / 8192) + C.val, by have := (rowOf t r).isLt; omega⟩ : Fin 16384) := Fin.ext (by
    show 8192 * (t.val / 128) + C.val = 8192 * ((rowOf t r).val / 8192) + C.val; rw [rowOf_div])
  rw [ek]

theorem emb4 (t : Fin cfg0.N) (r : Fin 256) (l : Fin 128) :
    ((cfg0.win 4).blk t).view.emb (ix2 r l) = (ix2 (rowOf t r) (vcolOf t l) : S16384x512.Idx) := by
  obtain ⟨e0, e1⟩ := idx4 t
  funext a; apply Fin.ext
  match a with
  | ⟨0, _⟩ => show win0_4.index t (0 : Fin 2) * 256 + 1 * r.val = 8192 * (t.val / 128) + 256 * (t.val % 32) + r.val; omega
  | ⟨1, _⟩ => show win0_4.index t (1 : Fin 2) * 128 + 1 * l.val = 128 * (t.val / 32 % 4) + l.val; omega

theorem flushed4_eq (c : Dev nD) (t : Fin cfg0.N) :
    (dats m 0 c).flushed 4 t = ((cfg0.win 4).blk t).view.read (Elt Ideal) (res4 m c) := by
  rw [flushed4_A]
  funext y
  obtain ⟨r, l, rfl⟩ : ∃ (r : Fin 256) (l : Fin 128), y = ix2 r l := ⟨y 0, y 1, by funext a; match a with | ⟨0, _⟩ => rfl | ⟨1, _⟩ => rfl⟩
  refine Eq.trans (out_apply (ms0_0 t) (hs0_0 t) (ms0_1 t) (hs0_1 t) (ms0_2 t) (hs0_2 t) (ms0_3 t) (hs0_3 t) (ms0_4 t) (hs0_4 t) scM0_0 (Memref.isWhole_whole _)
    scM0_1 (Memref.isWhole_whole _) (iblk m c 0 t) (iblk m c 1 t) (iblk m c 2 t) (iblk m c 3 t) (isCum m c t) c (grid0.coords t) r l) ?_
  show _ = res4 m c (((cfg0.win 4).blk t).view.emb (ix2 r l))
  rw [emb4]
  have hl := l.isLt
  split
  · exact sum_blk m c t 0 r l (by show l.val / 64 = 0; omega)
  · exact sum_blk m c t 1 r l (by show l.val / 64 = 1; omega)

theorem covered4 (i : S16384x512.Idx) : ∃ t : Fin cfg0.N, (cfg0.win 4).flush t = true ∧ i ∈ ((cfg0.win 4).blk t).view.set := by
  have h0 : (i 0).val < 16384 := (i 0).isLt
  have h1 : (i 1).val < 512 := (i 1).isLt
  have hN := hN
  let t : Fin cfg0.N := ⟨128 * ((i 0).val / 8192) + 32 * ((i 1).val / 128) + (i 0).val % 8192 / 256, by omega⟩
  refine ⟨t, flush0_4 t, ?_⟩
  have h := ((cfg0.win 4).blk t).view.emb_mem_set (ix2 (⟨(i 0).val % 256, by omega⟩ : Fin 256) (⟨(i 1).val % 128, by omega⟩ : Fin 128))
  have ht : t.val = 128 * ((i 0).val / 8192) + 32 * ((i 1).val / 128) + (i 0).val % 8192 / 256 := rfl
  have e : (ix2 (rowOf t ⟨(i 0).val % 256, by omega⟩) (vcolOf t ⟨(i 1).val % 128, by omega⟩) : S16384x512.Idx) = i := by
    funext a; apply Fin.ext
    match a with
    | ⟨0, _⟩ => show 8192 * (t.val / 128) + 256 * (t.val % 32) + (i 0).val % 256 = (i 0).val; omega
    | ⟨1, _⟩ => show 128 * (t.val / 32 % 4) + (i 1).val % 128 = (i 1).val; omega
  exact Eq.mp (congrArg (fun q => q ∈ ((cfg0.win 4).blk t).view.set) ((emb4 t _ _).trans e)) h

theorem final4 (c : Dev nD) : (dats m 0 c).arrAt 4 cfg0.N = res4 m c :=
  (dats m 0 c).arrAt_eq_of_cover 4 (res4 m c) (fun t _ => flushed4_eq m c t) covered4

end Cert.Kernel4Ideal.Value

end
-- ==== Proof.Sb.lean ====
/-
  The stick-breaking attention: kernel and reference agree.
-/
module

public import proofs.«01_k».proof.Proof.SbRef
public import proofs.«01_k».proof.Proof.SbValue
public import proofs.«01_k».proof.Proof.Gen.Reference4Ideal.Run
public import proofs.«01_k».proof.Defs

@[expose] public section

set_option maxRecDepth 16384

noncomputable section

namespace Cert

open Cert.Kernel4Ideal Cert.Kernel4Ideal.Gen Idealize.ShloMosaic Idealize.ShloMosaic.TcCoe Idealize.SL.Sem

variable (m : (ℓ : Loc nD τ sig) → Buf (Elt Ideal) ℓ)

theorem sb_eq (c : Dev nD) : Reference4Ideal.Read.val_main_v29 (F := Ideal) (m ((c : Thread nD τ).loc main_arg0))
    (m ((c : Thread nD τ).loc main_arg1)) (m ((c : Thread nD τ).loc main_arg2)) = Kernel4Ideal.Value.res4 m c := by
  funext y
  obtain ⟨n, j, rfl⟩ : ∃ (n : Fin 16384) (j : Fin 512), y = ix2 n j := ⟨y 0, y 1, by funext a; match a with | ⟨0, _⟩ => rfl | ⟨1, _⟩ => rfl⟩
  exact Reference4Ideal.Read.result_apply _ _ _ n j

/-- The stick-breaking kernel and the reference end with the same result array. -/
theorem sb : Cert.algebraic_Kernel4Ideal_Reference4Ideal := by
  intro m ρ m' ρ' _ hagree
  refine ⟨_, (θ_run Cert.Kernel4Ideal.defs _ _).mono (fun _ h c => ⟨(h c).1.trans (Kernel4Ideal.Value.final4 m c), (h c).2⟩)
    (Cert.Kernel4Ideal.Value.run_blocks (F := Ideal) m ρ), ?_⟩
  refine (θ_run Cert.Reference4Ideal.defs _ _).mono (fun _ h c => ⟨?_, (h c).2⟩) (Cert.Reference4Ideal.Value.run (F := Ideal) m' ρ')
  refine (h c).1.trans ((Reference4Ideal.Read.val_main_v29_eq m' c).trans (Eq.trans ?_ (sb_eq m c)))
  obtain ⟨a0, a1, a2⟩ := hagree c
  rw [← a0, ← a1, ← a2]

/-- The constant of the kernel's base-two logarithm is named. -/
theorem named_sb : Cert.preserves_Kernel4_Kernel4Ideal :=
  IdealRules.named_const.statement _ _ _ _ _ rfl

end Cert

end
-- ==== Proof.OutBlocks.lean ====
/-
  The output projection's kernel: its tiles read at an element, its blocks as entries of the arguments.
-/
module

public import proofs.«01_k».proof.Proof.InBlocks
public import proofs.«01_k».proof.Proof.Gen.Kernel5Ideal.Value

@[expose] public section

set_option maxRecDepth 16384

noncomputable section

namespace Cert.Out

open Idealize.ShloMosaic

/-- The three mixers' outputs of one row against a column of the weights, mixer by mixer. -/
def mix (a b : Fin 256 → EReal) (s : Fin 512 → EReal) (w : Fin 1024 → EReal) : EReal :=
  ∑ k, a k * w ⟨k.val, by omega⟩ + ∑ k, b k * w ⟨256 + k.val, by omega⟩ + ∑ k, s k * w ⟨512 + k.val, by omega⟩

/-- The three mixers' outputs of one row side by side. -/
def side (a b : Fin 256 → EReal) (s : Fin 512 → EReal) (k : Fin 1024) : EReal :=
  if h : k.val < 256 then a ⟨k.val, h⟩ else if h : k.val - 256 < 256 then b ⟨k.val - 256, h⟩ else s ⟨k.val - 256 - 256, by omega⟩

/-- One product over the outputs side by side is the sum of the three products. -/
theorem sum_side (a b : Fin 256 → EReal) (s : Fin 512 → EReal) (w : Fin 1024 → EReal) : ∑ k, side a b s k * w k = mix a b s w := by
  refine (Fin.sum_univ_add (a := 512) (b := 512) (fun k : Fin (512 + 512) => side a b s k * w k)).trans ?_
  rw [Fin.sum_univ_add (a := 256) (b := 256) (fun k : Fin (256 + 256) => side a b s (Fin.castAdd 512 k) * w (Fin.castAdd 512 k))]
  unfold mix
  refine congrArg₂ (· + ·) (congrArg₂ (· + ·) (Finset.sum_congr rfl fun k _ => ?_) (Finset.sum_congr rfl fun k _ => ?_)) (Finset.sum_congr rfl fun k _ => ?_)
  · have hk := k.isLt
    exact congrArg (· * _) (dif_pos (show k.val < 256 from hk))
  · have hk := k.isLt
    refine congrArg (· * _) ((dif_neg (show ¬ 256 + k.val < 256 by omega)).trans ((dif_pos (show 256 + k.val - 256 < 256 by omega)).trans ?_))
    exact congrArg b (Fin.ext (show 256 + k.val - 256 = k.val by omega))
  · have hk := k.isLt
    refine congrArg (· * _) ((dif_neg (show ¬ 512 + k.val < 256 by omega)).trans ((dif_neg (show ¬ 512 + k.val - 256 < 256 by omega)).trans ?_))
    exact congrArg s (Fin.ext (show 512 + k.val - 256 - 256 = k.val by omega))

/-- The row after the mixers, at column `j`: mixers' rows `a`, `b`, `s`, the row before `x`, gate `g`, weights `w`. -/
def resid (a b : Fin 256 → EReal) (s : Fin 512 → EReal) (x g : Fin 1024 → EReal) (w : Fin 1024 → Fin 1024 → EReal) (j : Fin 1024) : EReal :=
  x j + g j * mix a b s (fun k => w k j)

end Cert.Out

namespace Cert.Kernel5Ideal.Value

open Cert.Kernel5Ideal Cert.Kernel5Ideal.Gen Idealize.ShloMosaic Idealize.ShloMosaic.TcCoe Idealize.SL.Sem

theorem hN : cfg0.N = 32 := N_0

/-- The first tile of a grid point at an element. -/
theorem tile_apply (a : Vec Ideal S512x256 .bf16) (wa : Vec Ideal S256x1024 .bf16) (b : Vec Ideal S512x256 .bf16) (wb : Vec Ideal S256x1024 .bf16)
    (s : Vec Ideal S512x512 .bf16) (ws : Vec Ideal S512x1024 .bf16) (x : Vec Ideal S512x1024 .f32) (g : Vec Ideal S1x1x1024 .f32)
    (r : Fin 512) (j : Fin 1024) :
    (k0_pay2 a wa b wb s ws x g (ix2 r j) : EReal) = x (ix2 r j) + g (ix3 0 0 j) *
      (∑ k : Fin 256, a (ix2 r k) * wa (ix2 k j) + ∑ k : Fin 256, b (ix2 r k) * wb (ix2 k j) + ∑ k : Fin 512, s (ix2 r k) * ws (ix2 k j)) := by
  pointwise [k0_pay2]

/-- The normed tile over the first tile `z`. -/
def normed (z : FVec Ideal S512x1024 .f32) : FVec Ideal S512x1024 .f32 :=
  mulf z (broadcastTo S512x1024 (rsqrt (addf (divf (shapeCast S512x1 (multiReduction .add [1] S512 (mulf z z) 0x00000000#32 reduces_S512x1024_S512 (.inl rfl) rfl)
    shapeCasts_S512_S512x1) (broadcast S512x1 (Scalar.ofBits (F := Ideal) .f32 0x44800000#32))) (broadcast S512x1 (Scalar.ofBits (F := Ideal) .f32 0x358637BD#32))))
    broadcasts_S512x1_S512x1024)

theorem pay3_eq (a : Vec Ideal S512x256 .bf16) (wa : Vec Ideal S256x1024 .bf16) (b : Vec Ideal S512x256 .bf16) (wb : Vec Ideal S256x1024 .bf16)
    (s : Vec Ideal S512x512 .bf16) (ws : Vec Ideal S512x1024 .bf16) (x : Vec Ideal S512x1024 .f32) (g : Vec Ideal S1x1x1024 .f32) :
    k0_pay3 a wa b wb s ws x g = normed (k0_pay2 a wa b wb s ws x g) := rfl

theorem normed_apply (z : FVec Ideal S512x1024 .f32) (r : Fin 512) (j : Fin 1024) :
    (normed z (ix2 r j) : EReal) = z (ix2 r j) * Ideal.rsqrt (Ideal.div (∑ k : Fin 1024, z (ix2 r k) * z (ix2 r k)) (Ideal.ofBits .f32 0x44800000#32)
      + Ideal.ofBits .f32 0x358637BD#32) := by
  pointwise [normed]

/-- The second tile over a normed tile, at an element. -/
theorem pay1_apply (z : FVec Ideal S512x1024 .f32) (g : Vec Ideal S1x1024 .f32) (sc sh : Vec Ideal S1x1x1024 .f32) (r : Fin 512) (j : Fin 1024) :
    (k0_pay1 z g sc sh (ix2 r j) : EReal) = z (ix2 r j) * g (ix2 0 j) * (1 + sc (ix3 0 0 j)) + sh (ix3 0 0 j) := by
  pointwise [k0_pay1]

end Cert.Kernel5Ideal.Value

end
-- ==== Proof.OutReads.lean ====
/-
  The output projection's kernel: its blocks as entries of the arguments.
-/
module

public import proofs.«01_k».proof.Proof.OutBlocks

@[expose] public section

set_option maxRecDepth 16384

noncomputable section

namespace Cert.Kernel5Ideal.Value

open Cert.Kernel5Ideal Cert.Kernel5Ideal.Gen Idealize.ShloMosaic Idealize.ShloMosaic.TcCoe Idealize.SL.Sem

theorem idx0 : ∀ t : Fin cfg0.N, win0_0.index t (0 : Fin 2) = t.val ∧ win0_0.index t (1 : Fin 2) = 0 := by decide +kernel
theorem idx1 : ∀ t : Fin cfg0.N, win0_1.index t (0 : Fin 2) = t.val ∧ win0_1.index t (1 : Fin 2) = 0 := by decide +kernel
theorem idx2 : ∀ t : Fin cfg0.N, win0_2.index t (0 : Fin 2) = t.val ∧ win0_2.index t (1 : Fin 2) = 0 := by decide +kernel
theorem idx3 : ∀ t : Fin cfg0.N, win0_3.index t (0 : Fin 2) = t.val ∧ win0_3.index t (1 : Fin 2) = 0 := by decide +kernel
theorem idx11 : ∀ t : Fin cfg0.N, win0_11.index t (0 : Fin 2) = t.val ∧ win0_11.index t (1 : Fin 2) = 0 := by decide +kernel
theorem idx12 : ∀ t : Fin cfg0.N, win0_12.index t (0 : Fin 2) = t.val ∧ win0_12.index t (1 : Fin 2) = 0 := by decide +kernel
theorem idx4 : ∀ t : Fin cfg0.N, win0_4.index t (0 : Fin 3) = t.val / 16 ∧ win0_4.index t (1 : Fin 3) = 0 ∧ win0_4.index t (2 : Fin 3) = 2 := by decide +kernel
theorem idx5 : ∀ t : Fin cfg0.N, win0_5.index t (0 : Fin 3) = t.val / 16 ∧ win0_5.index t (1 : Fin 3) = 0 ∧ win0_5.index t (2 : Fin 3) = 3 := by decide +kernel
theorem idx6 : ∀ t : Fin cfg0.N, win0_6.index t (0 : Fin 3) = t.val / 16 ∧ win0_6.index t (1 : Fin 3) = 0 ∧ win0_6.index t (2 : Fin 3) = 4 := by decide +kernel
theorem idx7 : ∀ t : Fin cfg0.N, win0_7.index t (0 : Fin 2) = 0 ∧ win0_7.index t (1 : Fin 2) = 0 := by decide +kernel
theorem idx8 : ∀ t : Fin cfg0.N, win0_8.index t (0 : Fin 2) = 0 ∧ win0_8.index t (1 : Fin 2) = 0 := by decide +kernel
theorem idx9 : ∀ t : Fin cfg0.N, win0_9.index t (0 : Fin 2) = 0 ∧ win0_9.index t (1 : Fin 2) = 0 := by decide +kernel
theorem idx10 : ∀ t : Fin cfg0.N, win0_10.index t (0 : Fin 2) = 0 ∧ win0_10.index t (1 : Fin 2) = 0 := by decide +kernel

variable (m : (ℓ : Loc nD τ sig) → Buf (Elt Ideal) ℓ)

/-- Row `r` of row block `t`. -/
abbrev rowOf (t : Fin cfg0.N) (r : Fin 512) : Fin 16384 := ⟨512 * t.val + r.val, by have := t.isLt; have := hN; omega⟩
/-- The batch of point `t`. -/
abbrev batOf (t : Fin cfg0.N) : Fin 2 := ⟨t.val / 16, by have := t.isLt; have := hN; omega⟩

theorem blk0 (c : Dev nD) (t : Fin cfg0.N) (r : Fin 512) (k : Fin 256) :
    (iblk m c 0 t : Vec Ideal S512x256 .bf16) (ix2 r k) = m ((c : Thread nD τ).loc main_arg0) (ix2 (rowOf t r) k) := by
  rw [← V_main_arg0 m c]
  unfold iblk
  rw [View.read_apply]
  show V m c main_arg0 _ = V m c main_arg0 _
  congr 1; funext a; apply Fin.ext
  obtain ⟨e0, e1⟩ := idx0 t
  match a with
  | ⟨0, _⟩ => show win0_0.index t (0 : Fin 2) * 512 + 1 * r.val = 512 * t.val + r.val; omega
  | ⟨1, _⟩ => show win0_0.index t (1 : Fin 2) * 256 + 1 * k.val = k.val; omega

theorem blk1 (c : Dev nD) (t : Fin cfg0.N) (r : Fin 512) (k : Fin 256) :
    (iblk m c 1 t : Vec Ideal S512x256 .bf16) (ix2 r k) = m ((c : Thread nD τ).loc main_arg1) (ix2 (rowOf t r) k) := by
  rw [← V_main_arg1 m c]
  unfold iblk
  rw [View.read_apply]
  show V m c main_arg1 _ = V m c main_arg1 _
  congr 1; funext a; apply Fin.ext
  obtain ⟨e0, e1⟩ := idx1 t
  match a with
  | ⟨0, _⟩ => show win0_1.index t (0 : Fin 2) * 512 + 1 * r.val = 512 * t.val + r.val; omega
  | ⟨1, _⟩ => show win0_1.index t (1 : Fin 2) * 256 + 1 * k.val = k.val; omega

theorem blk2 (c : Dev nD) (t : Fin cfg0.N) (r : Fin 512) (k : Fin 512) :
    (iblk m c 2 t : Vec Ideal S512x512 .bf16) (ix2 r k) = m ((c : Thread nD τ).loc main_arg2) (ix2 (rowOf t r) k) := by
  rw [← V_main_arg2 m c]
  unfold iblk
  rw [View.read_apply]
  show V m c main_arg2 _ = V m c main_arg2 _
  congr 1; funext a; apply Fin.ext
  obtain ⟨e0, e1⟩ := idx2 t
  match a with
  | ⟨0, _⟩ => show win0_2.index t (0 : Fin 2) * 512 + 1 * r.val = 512 * t.val + r.val; omega
  | ⟨1, _⟩ => show win0_2.index t (1 : Fin 2) * 512 + 1 * k.val = k.val; omega

theorem blk3 (c : Dev nD) (t : Fin cfg0.N) (r : Fin 512) (k : Fin 1024) :
    (iblk m c 3 t : Vec Ideal S512x1024 .f32) (ix2 r k) = m ((c : Thread nD τ).loc main_arg3) (ix2 (rowOf t r) k) := by
  rw [← V_main_arg3 m c]
  unfold iblk
  rw [View.read_apply]
  show V m c main_arg3 _ = V m c main_arg3 _
  congr 1; funext a; apply Fin.ext
  obtain ⟨e0, e1⟩ := idx3 t
  match a with
  | ⟨0, _⟩ => show win0_3.index t (0 : Fin 2) * 512 + 1 * r.val = 512 * t.val + r.val; omega
  | ⟨1, _⟩ => show win0_3.index t (1 : Fin 2) * 1024 + 1 * k.val = k.val; omega

theorem blk4 (c : Dev nD) (t : Fin cfg0.N) (k : Fin 1024) :
    (iblk m c 4 t : Vec Ideal S1x1x1024 .f32) (ix3 0 0 k) = m ((c : Thread nD τ).loc main_arg4) (ix3 (batOf t) 0 ⟨2048 + k.val, by omega⟩) := by
  rw [← V_main_arg4 m c]
  unfold iblk
  rw [View.read_apply]
  show V m c main_arg4 _ = V m c main_arg4 _
  congr 1; funext a; apply Fin.ext
  obtain ⟨e0, e1, e2⟩ := idx4 t
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * k.val = 2048 + k.val; omega

theorem blk5 (c : Dev nD) (t : Fin cfg0.N) (k : Fin 1024) :
    (iblk m c 5 t : Vec Ideal S1x1x1024 .f32) (ix3 0 0 k) = m ((c : Thread nD τ).loc main_arg4) (ix3 (batOf t) 0 ⟨3072 + k.val, by omega⟩) := by
  rw [← V_main_arg4 m c]
  unfold iblk
  rw [View.read_apply]
  show V m c main_arg4 _ = V m c main_arg4 _
  congr 1; funext a; apply Fin.ext
  obtain ⟨e0, e1, e2⟩ := idx5 t
  match a with
  | ⟨0, _⟩ => show win0_5.index t (0 : Fin 3) * 1 + 1 * 0 = t.val / 16; omega
  | ⟨1, _⟩ => show win0_5.index t (1 : Fin 3) * 1 + 1 * 0 = 0; omega
  | ⟨2, _⟩ => show win0_5.index t (2 : Fin 3) * 1024 + 1 * k.val = 3072 + k.val; omega

theorem blk6 (c : Dev nD) (t : Fin cfg0.N) (k : Fin 1024) :
    (iblk m c 6 t : Vec Ideal S1x1x1024 .f32) (ix3 0 0 k) = m ((c : Thread nD τ).loc main_arg4) (ix3 (batOf t) 0 ⟨4096 + k.val, by omega⟩) := by
  rw [← V_main_arg4 m c]
  unfold iblk
  rw [View.read_apply]
  show V m c main_arg4 _ = V m c main_arg4 _
  congr 1; funext a; apply Fin.ext
  obtain ⟨e0, e1, e2⟩ := idx6 t
  match a with
  | ⟨0, _⟩ => show win0_6.index t (0 : Fin 3) * 1 + 1 * 0 = t.val / 16; omega
  | ⟨1, _⟩ => show win0_6.index t (1 : Fin 3) * 1 + 1 * 0 = 0; omega
  | ⟨2, _⟩ => show win0_6.index t (2 : Fin 3) * 1024 + 1 * k.val = 4096 + k.val; omega

theorem V_g (c : Dev nD) (k : Fin 1024) : V m c main_v6 (ix2 0 k) = m ((c : Thread nD τ).loc main_arg5) (ix1 k) := by
  have h : V m c main_v6 = shapeCast S1x1024 (m ((c : Thread nD τ).loc main_arg5)) shapeCasts_S1024_S1x1024 := by
    show StableHlo.after _ (fun b => m (c, b)) main_v6 = _
    simp only [hostOps0, List.flatten_cons, List.flatten_nil, List.append_nil, List.cons_append, List.nil_append]
    after_results
    rfl
  rw [h]
  pointwise

theorem blk7 (c : Dev nD) (t : Fin cfg0.N) (k : Fin 1024) :
    (iblk m c 7 t : Vec Ideal S1x1024 .f32) (ix2 0 k) = m ((c : Thread nD τ).loc main_arg5) (ix1 k) := by
  rw [← V_g m c k]
  unfold iblk
  rw [View.read_apply]
  show V m c main_v6 _ = V m c main_v6 _
  congr 1; funext a; apply Fin.ext
  obtain ⟨e0, e1⟩ := idx7 t
  match a with
  | ⟨0, _⟩ => show win0_7.index t (0 : Fin 2) * 1 + 1 * 0 = 0; omega
  | ⟨1, _⟩ => show win0_7.index t (1 : Fin 2) * 1024 + 1 * k.val = k.val; omega

theorem V_w8 (c : Dev nD) (k : Fin 256) (j : Fin 1024) :
    ((V m c main_v1 : FVec Ideal S256x1024 .bf16) (ix2 k j) : EReal) = m ((c : Thread nD τ).loc main_arg6) (ix2 ⟨k.val, by omega⟩ j) := by
  have h : (V m c main_v1 : FVec Ideal S256x1024 .bf16)
      = truncf .bf16 (extractStridedSlice S256x1024 ![0, 0] (m ((c : Thread nD τ).loc main_arg6)) slices_S1024x1024_S256x1024_0_0 : FVec Ideal S256x1024 .f32) bitsLt_bf16_f32 := by
    show StableHlo.after _ (fun b => m (c, b)) main_v1 = _
    simp only [hostOps0, List.flatten_cons, List.flatten_nil, List.append_nil, List.cons_append, List.nil_append]
    after_results
  rw [h]
  pointwise

theorem blk8 (c : Dev nD) (t : Fin cfg0.N) (k : Fin 256) (j : Fin 1024) :
    ((iblk m c 8 t : Vec Ideal S256x1024 .bf16) (ix2 k j) : EReal) = m ((c : Thread nD τ).loc main_arg6) (ix2 ⟨k.val, by omega⟩ j) := by
  rw [← V_w8 m c k j]
  unfold iblk
  rw [View.read_apply]
  show V m c main_v1 _ = V m c main_v1 _
  congr 1; funext a; apply Fin.ext
  obtain ⟨e0, e1⟩ := idx8 t
  match a with
  | ⟨0, _⟩ => show win0_8.index t (0 : Fin 2) * 256 + 1 * k.val = k.val; omega
  | ⟨1, _⟩ => show win0_8.index t (1 : Fin 2) * 1024 + 1 * j.val = j.val; omega

theorem V_w9 (c : Dev nD) (k : Fin 256) (j : Fin 1024) :
    ((V m c main_v3 : FVec Ideal S256x1024 .bf16) (ix2 k j) : EReal) = m ((c : Thread nD τ).loc main_arg6) (ix2 ⟨256 + k.val, by omega⟩ j) := by
  have h : (V m c main_v3 : FVec Ideal S256x1024 .bf16)
      = truncf .bf16 (extractStridedSlice S256x1024 ![256, 0] (m ((c : Thread nD τ).loc main_arg6)) slices_S1024x1024_S256x1024_256_0 : FVec Ideal S256x1024 .f32) bitsLt_bf16_f32 := by
    show StableHlo.after _ (fun b => m (c, b)) main_v3 = _
    simp only [hostOps0, List.flatten_cons, List.flatten_nil, List.append_nil, List.cons_append, List.nil_append]
    after_results
  rw [h]
  pointwise

theorem blk9 (c : Dev nD) (t : Fin cfg0.N) (k : Fin 256) (j : Fin 1024) :
    ((iblk m c 9 t : Vec Ideal S256x1024 .bf16) (ix2 k j) : EReal) = m ((c : Thread nD τ).loc main_arg6) (ix2 ⟨256 + k.val, by omega⟩ j) := by
  rw [← V_w9 m c k j]
  unfold iblk
  rw [View.read_apply]
  show V m c main_v3 _ = V m c main_v3 _
  congr 1; funext a; apply Fin.ext
  obtain ⟨e0, e1⟩ := idx9 t
  match a with
  | ⟨0, _⟩ => show win0_9.index t (0 : Fin 2) * 256 + 1 * k.val = k.val; omega
  | ⟨1, _⟩ => show win0_9.index t (1 : Fin 2) * 1024 + 1 * j.val = j.val; omega

theorem V_w10 (c : Dev nD) (k : Fin 512) (j : Fin 1024) :
    ((V m c main_v5 : FVec Ideal S512x1024 .bf16) (ix2 k j) : EReal) = m ((c : Thread nD τ).loc main_arg6) (ix2 ⟨512 + k.val, by omega⟩ j) := by
  have h : (V m c main_v5 : FVec Ideal S512x1024 .bf16)
      = truncf .bf16 (extractStridedSlice S512x1024 ![512, 0] (m ((c : Thread nD τ).loc main_arg6)) slices_S1024x1024_S512x1024_512_0 : FVec Ideal S512x1024 .f32) bitsLt_bf16_f32 := by
    show StableHlo.after _ (fun b => m (c, b)) main_v5 = _
    simp only [hostOps0, List.flatten_cons, List.flatten_nil, List.append_nil, List.cons_append, List.nil_append]
    after_results
  rw [h]
  pointwise

theorem blk10 (c : Dev nD) (t : Fin cfg0.N) (k : Fin 512) (j : Fin 1024) :
    ((iblk m c 10 t : Vec Ideal S512x1024 .bf16) (ix2 k j) : EReal) = m ((c : Thread nD τ).loc main_arg6) (ix2 ⟨512 + k.val, by omega⟩ j) := by
  rw [← V_w10 m c k j]
  unfold iblk
  rw [View.read_apply]
  show V m c main_v5 _ = V m c main_v5 _
  congr 1; funext a; apply Fin.ext
  obtain ⟨e0, e1⟩ := idx10 t
  match a with
  | ⟨0, _⟩ => show win0_10.index t (0 : Fin 2) * 512 + 1 * k.val = k.val; omega
  | ⟨1, _⟩ => show win0_10.index t (1 : Fin 2) * 1024 + 1 * j.val = j.val; omega

end Cert.Kernel5Ideal.Value

end
-- ==== Proof.OutValue.lean ====
/-
  The output projection's kernel: its two result arrays at an element.
-/
module

public import proofs.«01_k».proof.Proof.OutReads

@[expose] public section

set_option maxRecDepth 16384

noncomputable section

namespace Cert.Out

open Idealize.ShloMosaic

/-- The residual of row `n` at column `j`, from the call's arguments. -/
def val (a b : Fin 16384 → Fin 256 → EReal) (s : Fin 16384 → Fin 512 → EReal) (x : Fin 16384 → Fin 1024 → EReal) (mod : Fin 2 → Fin 6144 → EReal)
    (w : Fin 1024 → Fin 1024 → EReal) (n : Fin 16384) (j : Fin 1024) : EReal :=
  resid (a n) (b n) (s n) (x n) (fun k => mod ⟨n.val / 8192, by omega⟩ ⟨2048 + k.val, by omega⟩) w j

/-- The normed residual of row `n` at column `j`, from the residuals and the call's arguments. -/
def nval (z : Fin 16384 → Fin 1024 → EReal) (mod : Fin 2 → Fin 6144 → EReal) (g : Fin 1024 → EReal) (n : Fin 16384) (j : Fin 1024) : EReal :=
  In.row (z n) g (fun k => mod ⟨n.val / 8192, by omega⟩ ⟨4096 + k.val, by omega⟩) (fun k => mod ⟨n.val / 8192, by omega⟩ ⟨3072 + k.val, by omega⟩) j

end Cert.Out

namespace Cert.Kernel5Ideal.Value

open Cert.Kernel5Ideal Cert.Kernel5Ideal.Gen Idealize.ShloMosaic Idealize.ShloMosaic.TcCoe Idealize.SL.Sem

variable (m : (ℓ : Loc nD τ sig) → Buf (Elt Ideal) ℓ)

/-- The residual of row `n` at column `j`, from the arguments as launched. -/
abbrev outval (c : Dev nD) : Fin 16384 → Fin 1024 → EReal :=
  Out.val (fun n k => m ((c : Thread nD τ).loc main_arg0) (ix2 n k)) (fun n k => m ((c : Thread nD τ).loc main_arg1) (ix2 n k))
    (fun n k => m ((c : Thread nD τ).loc main_arg2) (ix2 n k)) (fun n k => m ((c : Thread nD τ).loc main_arg3) (ix2 n k))
    (fun b k => m ((c : Thread nD τ).loc main_arg4) (ix3 b 0 k)) (fun k j => m ((c : Thread nD τ).loc main_arg6) (ix2 k j))

/-- The normed residual of row `n` at column `j`, from the arguments as launched. -/
abbrev normval (c : Dev nD) : Fin 16384 → Fin 1024 → EReal :=
  Out.nval (outval m c) (fun b k => m ((c : Thread nD τ).loc main_arg4) (ix3 b 0 k)) (fun k => m ((c : Thread nD τ).loc main_arg5) (ix1 k))

theorem batOf_row (t : Fin cfg0.N) (r : Fin 512) :
    (⟨(rowOf t r).val / 8192, by have := (rowOf t r).isLt; omega⟩ : Fin 2) = batOf t := Fin.ext (by
  show (512 * t.val + r.val) / 8192 = t.val / 16; have := r.isLt; omega)

/-- The first tile of point `t`. -/
abbrev tile (c : Dev nD) (t : Fin cfg0.N) : FVec Ideal S512x1024 .f32 :=
  k0_pay2 (iblk m c 0 t) (iblk m c 8 t) (iblk m c 1 t) (iblk m c 9 t) (iblk m c 2 t) (iblk m c 10 t) (iblk m c 3 t) (iblk m c 4 t)

theorem tile_blk (c : Dev nD) (t : Fin cfg0.N) (r : Fin 512) (j : Fin 1024) : (tile m c t (ix2 r j) : EReal) = outval m c (rowOf t r) j := by
  refine (tile_apply _ _ _ _ _ _ _ _ r j).trans ?_
  simp only [blk0, blk1, blk2, blk3, blk4, blk8, blk9, blk10]
  unfold outval Out.val Out.resid Out.mix
  rw [batOf_row]

/-- The second tile of point `t`. -/
theorem normed_blk (c : Dev nD) (t : Fin cfg0.N) (r : Fin 512) (j : Fin 1024) :
    (k0_pay1 (normed (tile m c t)) (iblk m c 7 t) (iblk m c 6 t) (iblk m c 5 t) (ix2 r j) : EReal) = normval m c (rowOf t r) j := by
  rw [pay1_apply, normed_apply]
  simp only [tile_blk, blk5, blk6, blk7]
  unfold normval Out.nval In.row
  rw [batOf_row]

theorem hz2 : (![0, 0] : Fin 2 → Nat) = fun _ => 0 := funext fun a => by fin_cases a <;> rfl
theorem hz3 : (![0, 0, 0] : Fin 3 → Nat) = fun _ => 0 := funext fun a => by fin_cases a <;> rfl

theorem out11 (x0 x1 : Vec Ideal S512x256 .bf16) (x2 : Vec Ideal S512x512 .bf16) (x3 : Vec Ideal S512x1024 .f32) (x4 x5 x6 : Vec Ideal S1x1x1024 .f32)
    (x7 : Vec Ideal S1x1024 .f32) (x8 x9 : Vec Ideal S256x1024 .bf16) (x10 : Vec Ideal S512x1024 .bf16) :
    out0_11 x0 x1 x2 x3 x4 x5 x6 x7 x8 x9 x10 = k0_pay2 x0 x8 x1 x9 x2 x10 x3 x4 := by
  unfold out0_11
  simp only [View.ld_unit_zero (S := S512x256) hz2, View.ld_unit_zero (S := S256x1024) hz2, View.ld_unit_zero (S := S512x512) hz2,
    View.ld_unit_zero (S := S512x1024) hz2, View.ld_unit_zero (S := S1x1024) hz2, View.ld_unit_zero (S := S1x1x1024) hz3]
  exact View.canon_unit_zero (S := S512x1024) hz2 _ _

theorem out12 (x0 x1 : Vec Ideal S512x256 .bf16) (x2 : Vec Ideal S512x512 .bf16) (x3 : Vec Ideal S512x1024 .f32) (x4 x5 x6 : Vec Ideal S1x1x1024 .f32)
    (x7 : Vec Ideal S1x1024 .f32) (x8 x9 : Vec Ideal S256x1024 .bf16) (x10 : Vec Ideal S512x1024 .bf16) :
    out0_12 x0 x1 x2 x3 x4 x5 x6 x7 x8 x9 x10 = k0_pay1 (normed (k0_pay2 x0 x8 x1 x9 x2 x10 x3 x4)) x7 x6 x5 := by
  unfold out0_12
  simp only [View.ld_unit_zero (S := S512x256) hz2, View.ld_unit_zero (S := S256x1024) hz2, View.ld_unit_zero (S := S512x512) hz2,
    View.ld_unit_zero (S := S512x1024) hz2, View.ld_unit_zero (S := S1x1024) hz2, View.ld_unit_zero (S := S1x1x1024) hz3]
  exact View.canon_unit_zero (S := S512x1024) hz2 _ _

/-- Output window 11's array: the residuals. -/
abbrev res11 (c : Dev nD) : FVec Ideal S16384x1024 .f32 := fun i => outval m c (i 0) (i 1)
/-- Output window 12's array: the normed residuals. -/
abbrev res12 (c : Dev nD) : FVec Ideal S16384x1024 .bf16 := fun i => normval m c (i 0) (i 1)

theorem emb11 (t : Fin cfg0.N) (r : Fin 512) (j : Fin 1024) :
    ((cfg0.win 11).blk t).view.emb (ix2 r j) = (ix2 (rowOf t r) j : S16384x1024.Idx) := by
  obtain ⟨e0, e1⟩ := idx11 t
  funext a; apply Fin.ext
  match a with
  | ⟨0, _⟩ => show win0_11.index t (0 : Fin 2) * 512 + 1 * r.val = 512 * t.val + r.val; omega
  | ⟨1, _⟩ => show win0_11.index t (1 : Fin 2) * 1024 + 1 * j.val = j.val; omega

theorem emb12 (t : Fin cfg0.N) (r : Fin 512) (j : Fin 1024) :
    ((cfg0.win 12).blk t).view.emb (ix2 r j) = (ix2 (rowOf t r) j : S16384x1024.Idx) := by
  obtain ⟨e0, e1⟩ := idx12 t
  funext a; apply Fin.ext
  match a with
  | ⟨0, _⟩ => show win0_12.index t (0 : Fin 2) * 512 + 1 * r.val = 512 * t.val + r.val; omega
  | ⟨1, _⟩ => show win0_12.index t (1 : Fin 2) * 1024 + 1 * j.val = j.val; omega

theorem flushed11_eq (c : Dev nD) (t : Fin cfg0.N) :
    (dats m 0 c).flushed 11 t = ((cfg0.win 11).blk t).view.read (Elt Ideal) (res11 m c) := by
  rw [flushed11, out11]
  funext y
  obtain ⟨r, j, rfl⟩ : ∃ (r : Fin 512) (j : Fin 1024), y = ix2 r j := ⟨y 0, y 1, by funext a; match a with | ⟨0, _⟩ => rfl | ⟨1, _⟩ => rfl⟩
  show tile m c t (ix2 r j) = res11 m c (((cfg0.win 11).blk t).view.emb (ix2 r j))
  rw [emb11]
  exact tile_blk m c t r j

theorem flushed12_eq (c : Dev nD) (t : Fin cfg0.N) :
    (dats m 0 c).flushed 12 t = ((cfg0.win 12).blk t).view.read (Elt Ideal) (res12 m c) := by
  rw [flushed12, out12]
  funext y
  obtain ⟨r, j, rfl⟩ : ∃ (r : Fin 512) (j : Fin 1024), y = ix2 r j := ⟨y 0, y 1, by funext a; match a with | ⟨0, _⟩ => rfl | ⟨1, _⟩ => rfl⟩
  show k0_pay1 (normed (tile m c t)) (iblk m c 7 t) (iblk m c 6 t) (iblk m c 5 t) (ix2 r j) = res12 m c (((cfg0.win 12).blk t).view.emb (ix2 r j))
  rw [emb12]
  exact normed_blk m c t r j

theorem covered11 (i : S16384x1024.Idx) : ∃ t : Fin cfg0.N, (cfg0.win 11).flush t = true ∧ i ∈ ((cfg0.win 11).blk t).view.set := by
  have h0 : (i 0).val < 16384 := (i 0).isLt
  have hN := hN
  let t : Fin cfg0.N := ⟨(i 0).val / 512, by omega⟩
  refine ⟨t, flush0_11 t, ?_⟩
  have h := ((cfg0.win 11).blk t).view.emb_mem_set (ix2 (⟨(i 0).val % 512, by omega⟩ : Fin 512) (i 1 : Fin 1024))
  have e : (ix2 (rowOf t ⟨(i 0).val % 512, by omega⟩) (i 1 : Fin 1024) : S16384x1024.Idx) = i := by
    funext a; apply Fin.ext
    match a with
    | ⟨0, _⟩ => show 512 * ((i 0).val / 512) + (i 0).val % 512 = (i 0).val; omega
    | ⟨1, _⟩ => rfl
  exact Eq.mp (congrArg (fun q => q ∈ ((cfg0.win 11).blk t).view.set) ((emb11 t _ _).trans e)) h

theorem final11 (c : Dev nD) : (dats m 0 c).arrAt 11 cfg0.N = res11 m c :=
  (dats m 0 c).arrAt_eq_of_cover 11 (res11 m c) (fun t _ => flushed11_eq m c t) covered11

theorem covered12 (i : S16384x1024.Idx) : ∃ t : Fin cfg0.N, (cfg0.win 12).flush t = true ∧ i ∈ ((cfg0.win 12).blk t).view.set := by
  have h0 : (i 0).val < 16384 := (i 0).isLt
  have hN := hN
  let t : Fin cfg0.N := ⟨(i 0).val / 512, by omega⟩
  refine ⟨t, flush0_12 t, ?_⟩
  have h := ((cfg0.win 12).blk t).view.emb_mem_set (ix2 (⟨(i 0).val % 512, by omega⟩ : Fin 512) (i 1 : Fin 1024))
  have e : (ix2 (rowOf t ⟨(i 0).val % 512, by omega⟩) (i 1 : Fin 1024) : S16384x1024.Idx) = i := by
    funext a; apply Fin.ext
    match a with
    | ⟨0, _⟩ => show 512 * ((i 0).val / 512) + (i 0).val % 512 = (i 0).val; omega
    | ⟨1, _⟩ => rfl
  exact Eq.mp (congrArg (fun q => q ∈ ((cfg0.win 12).blk t).view.set) ((emb12 t _ _).trans e)) h

theorem final12 (c : Dev nD) : (dats m 0 c).arrAt 12 cfg0.N = res12 m c :=
  (dats m 0 c).arrAt_eq_of_cover 12 (res12 m c) (fun t _ => flushed12_eq m c t) covered12

end Cert.Kernel5Ideal.Value

end
-- ==== Proof.OutRef.lean ====
/-
  The output projection's reference: its two result arrays at an element.
-/
module

public import proofs.«01_k».proof.Proof.OutValue
public import proofs.«01_k».proof.Proof.Gen.Reference5Ideal.Read

@[expose] public section

set_option maxRecDepth 16384

noncomputable section

namespace Cert.Reference5Ideal.Read

open Cert.Reference5Ideal Idealize.ShloMosaic Idealize.ShloMosaic.TcCoe

variable (x0 x1 : FVec Ideal S16384x256 .bf16) (x2 : FVec Ideal S16384x512 .bf16) (x3 : FVec Ideal S16384x1024 .f32) (x4 : FVec Ideal S2x1x6144 .f32)
  (x5 : FVec Ideal S1024 .f32) (x6 : FVec Ideal S1024x1024 .f32)

/-- Token `s` of batch `b` among the rows. -/
abbrev tok (b : Fin 2) (s : Fin 8192) : Fin 16384 := ⟨b.val * 8192 + s.val, by omega⟩

theorem tok_bat (b : Fin 2) (s : Fin 8192) : (⟨(tok b s).val / 8192, by have := (tok b s).isLt; omega⟩ : Fin 2) = b := Fin.ext (by
  show (b.val * 8192 + s.val) / 8192 = b.val; have := s.isLt; omega)

theorem a_apply (b : Fin 2) (s : Fin 8192) (k : Fin 256) : (val_main_v1 (F := Ideal) x0 (ix3 b s k) : EReal) = x0 (ix2 (tok b s) k) := by
  pointwise [val_main_v1, val_main_v0]

theorem b_apply (b : Fin 2) (s : Fin 8192) (k : Fin 256) : (val_main_v3 (F := Ideal) x1 (ix3 b s k) : EReal) = x1 (ix2 (tok b s) k) := by
  pointwise [val_main_v3, val_main_v2]

theorem s_apply (b : Fin 2) (s : Fin 8192) (k : Fin 512) : (val_main_v5 (F := Ideal) x2 (ix3 b s k) : EReal) = x2 (ix2 (tok b s) k) := by
  pointwise [val_main_v5, val_main_v4]

/-- Three column groups side by side. -/
def cat3 (y0 y1 : FVec Ideal S2x8192x256 .f32) (y2 : FVec Ideal S2x8192x512 .f32) : FVec Ideal S2x8192x1024 .f32 :=
  concatenate S2x8192x1024 2 [⟨S2x8192x256, y0⟩, ⟨S2x8192x256, y1⟩, ⟨S2x8192x512, y2⟩] Gen.concatenates_S2x8192x256_S2x8192x256_S2x8192x512_S2x8192x1024_d2

theorem cat3_apply (y0 y1 : FVec Ideal S2x8192x256 .f32) (y2 : FVec Ideal S2x8192x512 .f32) (b : Fin 2) (s : Fin 8192) (k : Fin 1024) :
    (cat3 y0 y1 y2 (ix3 b s k) : EReal) =
      if h : k.val < 256 then y0 (ix3 b s ⟨k.val, h⟩) else if h : k.val - 256 < 256 then y1 (ix3 b s ⟨k.val - 256, h⟩)
      else y2 (ix3 b s ⟨k.val - 256 - 256, by omega⟩) := by
  unfold cat3
  pointwise

theorem v12_eq : val_main_v12 (F := Ideal) x0 x1 x2
    = cat3 (val_main_v1 (F := Ideal) x0) (val_main_v3 (F := Ideal) x1) (val_main_v5 (F := Ideal) x2) := rfl

theorem side_apply (b : Fin 2) (s : Fin 8192) (k : Fin 1024) : (val_main_v12 (F := Ideal) x0 x1 x2 (ix3 b s k) : EReal)
    = Out.side (fun k => x0 (ix2 (tok b s) k)) (fun k => x1 (ix2 (tok b s) k)) (fun k => x2 (ix2 (tok b s) k)) k := by
  rw [v12_eq, cat3_apply]
  unfold Out.side
  simp only [a_apply, b_apply, s_apply]

theorem mix_apply (b : Fin 2) (s : Fin 8192) (j : Fin 1024) : (val_main_v13 (F := Ideal) x0 x1 x2 x6 (ix3 b s j) : EReal)
    = Out.mix (fun k => x0 (ix2 (tok b s) k)) (fun k => x1 (ix2 (tok b s) k)) (fun k => x2 (ix2 (tok b s) k)) (fun k => x6 (ix2 k j)) := by
  have h := side_apply x0 x1 x2 b s
  rw [← Out.sum_side]
  unfold val_main_v13
  pointwise
  simp only [h]

/-- The residuals of the arguments. -/
abbrev outv : Fin 16384 → Fin 1024 → EReal :=
  Out.val (fun n k => x0 (ix2 n k)) (fun n k => x1 (ix2 n k)) (fun n k => x2 (ix2 n k)) (fun n k => x3 (ix2 n k)) (fun b k => x4 (ix3 b 0 k))
    (fun k j => x6 (ix2 k j))

theorem res_apply (b : Fin 2) (s : Fin 8192) (j : Fin 1024) :
    (val_main_v17 (F := Ideal) x0 x1 x2 x3 x4 x6 (ix3 b s j) : EReal) = outv x0 x1 x2 x3 x4 x6 (tok b s) j := by
  have h := mix_apply x0 x1 x2 x6 b s j
  unfold outv Out.val Out.resid
  rw [tok_bat]
  pointwise [val_main_v17, val_main_v16, val_main_v15, val_main_v14, val_main_v8]
  rw [h]

theorem ms_apply (b : Fin 2) (s : Fin 8192) : (val_main_v19 (F := Ideal) x0 x1 x2 x3 x4 x6 (ix2 b s) : EReal)
    = ∑ j : Fin 1024, outv x0 x1 x2 x3 x4 x6 (tok b s) j * outv x0 x1 x2 x3 x4 x6 (tok b s) j := by
  have h : ∀ j : Fin 1024, (val_main_v18 (F := Ideal) x0 x1 x2 x3 x4 x6 (ix3 b s j) : EReal)
      = outv x0 x1 x2 x3 x4 x6 (tok b s) j * outv x0 x1 x2 x3 x4 x6 (tok b s) j := fun j => by
    show (val_main_v17 (F := Ideal) x0 x1 x2 x3 x4 x6 (ix3 b s j) : EReal) * val_main_v17 (F := Ideal) x0 x1 x2 x3 x4 x6 (ix3 b s j) = _
    rw [res_apply]
  unfold val_main_v19
  pointwise
  simp only [h]
  rw [show val_main_cst (F := Ideal) (Shape.Idx.first Gen.h_S_) = Ideal.ofBits .f32 0x00000000#32 from rfl, Ideal.ofBits_zero_f32, zero_add]

theorem row_apply (b : Fin 2) (s : Fin 8192) (k : Fin 1024) :
    (val_main_v36 (F := Ideal) x0 x1 x2 x3 x4 x5 x6 (ix3 b s k) : EReal)
      = Out.nval (outv x0 x1 x2 x3 x4 x6) (fun b k => x4 (ix3 b 0 k)) (fun k => x5 (ix1 k)) (tok b s) k := by
  unfold Out.nval
  rw [tok_bat]
  pointwise [val_main_v36, val_main_v35, val_main_v34, val_main_v33, val_main_v32, val_main_v31, val_main_cst_2, val_main_v30, val_main_v29,
    val_main_v28, val_main_v27, val_main_v26, val_main_v25, val_main_v24, val_main_v23, val_main_cst_1, val_main_v22, val_main_v21, val_main_cst_0,
    val_main_v20, val_main_v10, val_main_v9]
  rw [res_apply, ms_apply]
  rfl

theorem tok_row (n : Fin 16384) : tok (⟨n.val / 8192, by omega⟩ : Fin 2) (⟨n.val % 8192, by omega⟩ : Fin 8192) = n := Fin.ext (by
  show n.val / 8192 * 8192 + n.val % 8192 = n.val; omega)

/-- Batches and tokens as rows. -/
def rows (e : FTy) (p : FVec Ideal S2x8192x1024 e) : FVec Ideal S16384x1024 e := shapeCast S16384x1024 p Gen.shapeCasts_S2x8192x1024_S16384x1024

theorem rows_apply (e : FTy) (p : FVec Ideal S2x8192x1024 e) (n : Fin 16384) (j : Fin 1024) :
    rows e p (ix2 n j) = p (ix3 (⟨n.val / 8192, by omega⟩ : Fin 2) (⟨n.val % 8192, by omega⟩ : Fin 8192) j) := by
  unfold rows
  pointwise

theorem v37_eq : val_main_v37 (F := Ideal) x0 x1 x2 x3 x4 x6 = rows .f32 (val_main_v17 (F := Ideal) x0 x1 x2 x3 x4 x6) := rfl
theorem v39_eq : val_main_v39 (F := Ideal) x0 x1 x2 x3 x4 x5 x6 = rows .bf16 (val_main_v38 (F := Ideal) x0 x1 x2 x3 x4 x5 x6) := rfl

theorem v37_apply (n : Fin 16384) (j : Fin 1024) :
    (val_main_v37 (F := Ideal) x0 x1 x2 x3 x4 x6 (ix2 n j) : EReal) = outv x0 x1 x2 x3 x4 x6 n j := by
  rw [v37_eq, rows_apply, res_apply, tok_row]

theorem v39_apply (n : Fin 16384) (j : Fin 1024) : (val_main_v39 (F := Ideal) x0 x1 x2 x3 x4 x5 x6 (ix2 n j) : EReal)
    = Out.nval (outv x0 x1 x2 x3 x4 x6) (fun b k => x4 (ix3 b 0 k)) (fun k => x5 (ix1 k)) n j := by
  rw [v39_eq, rows_apply]
  refine Eq.trans (row_apply x0 x1 x2 x3 x4 x5 x6 _ _ j) ?_
  rw [tok_row]

end Cert.Reference5Ideal.Read

end
-- ==== Proof.Out.lean ====
/-
  The output projection: kernel and reference agree.
-/
module

public import proofs.«01_k».proof.Proof.OutRef
public import proofs.«01_k».proof.Proof.Gen.Reference5Ideal.Run
public import proofs.«01_k».proof.Defs

@[expose] public section

set_option maxRecDepth 16384

noncomputable section

namespace Cert

open Cert.Kernel5Ideal Cert.Kernel5Ideal.Gen Idealize.ShloMosaic Idealize.ShloMosaic.TcCoe Idealize.SL.Sem

variable (m : (ℓ : Loc nD τ sig) → Buf (Elt Ideal) ℓ)

theorem out37 (c : Dev nD) : Reference5Ideal.Read.val_main_v37 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6)) = Kernel5Ideal.Value.res11 m c := by
  funext y
  obtain ⟨n, j, rfl⟩ : ∃ (n : Fin 16384) (j : Fin 1024), y = ix2 n j := ⟨y 0, y 1, by funext a; match a with | ⟨0, _⟩ => rfl | ⟨1, _⟩ => rfl⟩
  exact Reference5Ideal.Read.v37_apply _ _ _ _ _ _ n j

theorem out39 (c : Dev nD) : Reference5Ideal.Read.val_main_v39 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) = Kernel5Ideal.Value.res12 m c := by
  funext y
  obtain ⟨n, j, rfl⟩ : ∃ (n : Fin 16384) (j : Fin 1024), y = ix2 n j := ⟨y 0, y 1, by funext a; match a with | ⟨0, _⟩ => rfl | ⟨1, _⟩ => rfl⟩
  exact Reference5Ideal.Read.v39_apply _ _ _ _ _ _ _ n j

/-- The output projection's kernel and the reference end with the same two result arrays. -/
theorem outproj : Cert.algebraic_Kernel5Ideal_Reference5Ideal := by
  intro m ρ m' ρ' _ hagree
  refine ⟨_, _, (θ_run Cert.Kernel5Ideal.defs _ _).mono (fun _ h c => ⟨(h c).1.trans (Kernel5Ideal.Value.final11 m c),
    (h c).2.1.trans (Kernel5Ideal.Value.final12 m c), (h c).2.2⟩) (Cert.Kernel5Ideal.Value.run_blocks (F := Ideal) m ρ), ?_⟩
  refine (θ_run Cert.Reference5Ideal.defs _ _).mono (fun _ h c => ⟨?_, ?_, (h c).2.2⟩) (Cert.Reference5Ideal.Value.run (F := Ideal) m' ρ')
  · refine (h c).1.trans ((Reference5Ideal.Read.val_main_v37_eq _ _ _ _ _ _).trans (Eq.trans ?_ (out37 m c)))
    obtain ⟨a0, a1, a2, a3, a4, a5, a6⟩ := hagree c
    rw [← a0, ← a1, ← a2, ← a3, ← a4, ← a6]
  · refine (h c).2.1.trans ((Reference5Ideal.Read.val_main_v39_eq m' c).trans (Eq.trans ?_ (out39 m c)))
    obtain ⟨a0, a1, a2, a3, a4, a5, a6⟩ := hagree c
    rw [← a0, ← a1, ← a2, ← a3, ← a4, ← a5, ← a6]

end Cert

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.KernelIdeal.Value
public import proofs.«01_k».proof.Proof.Gen.Pre_routed
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Moe
public import proofs.«01_k».proof.Proof.Ffn
public import proofs.«01_k».proof.Proof.In
public import proofs.«01_k».proof.Proof.Sb
public import proofs.«01_k».proof.Proof.Out
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_routed.Gen.facts,
  fun m ρ _ => Cert.Kernel.Gen.frame m ρ, fun m ρ _ => Cert.KernelIdeal.Gen.frame m ρ, fun m ρ _ => Cert.KernelIdeal.Gen.frame m ρ, quiescent_ReferenceIdeal, fun m ρ _ => quiescent_ReferenceIdeal m ρ trivial, fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  (trivial : preserves_Kernel_KernelIdeal), moe, (trivial : preserves_Kernel2_Kernel2Ideal), ffn,
  (trivial : preserves_Kernel3_Kernel3Ideal), inproj,
  named_sb, sb, (trivial : preserves_Kernel5_Kernel5Ideal), outproj⟩

end Cert.Proof

end
